-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![16, 512, 768]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![16, 512, 768]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S16x512x64x64 : Shape := ⟨4, ![16, 512, 64, 64]⟩
abbrev S512x768 : Shape := ⟨2, ![512, 768]⟩
abbrev S8x768x512 : Shape := ⟨3, ![8, 768, 512]⟩
abbrev S8x512x768 : Shape := ⟨3, ![8, 512, 768]⟩
abbrev S2x8x2x512x64 : Shape := ⟨5, ![2, 8, 2, 512, 64]⟩
abbrev S1024x512 : Shape := ⟨2, ![1024, 512]⟩
abbrev S2x512x512 : Shape := ⟨3, ![2, 512, 512]⟩
abbrev S2 : Shape := ⟨1, ![2]⟩
abbrev S7 : Shape := ⟨1, ![7]⟩
abbrev S1 : Shape := ⟨1, ![1]⟩
abbrev S_ : Shape := ⟨0, ![]⟩
abbrev S1x1x2x512x64 : Shape := ⟨5, ![1, 1, 2, 512, 64]⟩
abbrev S2x512x64 : Shape := ⟨3, ![2, 512, 64]⟩
abbrev S2x512x1x64 : Shape := ⟨4, ![2, 512, 1, 64]⟩
abbrev S1x768x512 : Shape := ⟨3, ![1, 768, 512]⟩
abbrev S1x512x768 : Shape := ⟨3, ![1, 512, 768]⟩
abbrev S1024x768 : Shape := ⟨2, ![1024, 768]⟩
abbrev S512x512 : Shape := ⟨2, ![512, 512]⟩
abbrev S512x128 : Shape := ⟨2, ![512, 128]⟩
abbrev S512x64 : Shape := ⟨2, ![512, 64]⟩
abbrev S1x1x1x512x64 : Shape := ⟨5, ![1, 1, 1, 512, 64]⟩
abbrev S1x1x512x64 : Shape := ⟨4, ![1, 1, 512, 64]⟩
abbrev S512 : Shape := ⟨1, ![512]⟩
abbrev S512x1 : Shape := ⟨2, ![512, 1]⟩
abbrev S1x512x128 : Shape := ⟨3, ![1, 512, 128]⟩
abbrev S1x512x512 : Shape := ⟨3, ![1, 512, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S16x512x64x64, .f32⟩
  | .hbm, ⟨3, _⟩ => ⟨S16x512x64x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S512x768, .f32⟩
  | .local _ .vmem, ⟨3, _⟩ => ⟨S2x512x768, .f32⟩
  | .local _ .vmem, ⟨4, _⟩ => ⟨S8x768x512, .f32⟩
  | .local _ .vmem, ⟨5, _⟩ => ⟨S8x512x768, .f32⟩
  | .local _ .vmem, ⟨6, _⟩ => ⟨S2x8x2x512x64, .f32⟩
  | .local _ .vmem, ⟨7, _⟩ => ⟨S2x8x2x512x64, .f32⟩
  | .local _ .vmem, ⟨8, _⟩ => ⟨S1024x512, .f32⟩
  | .local _ .vmem, ⟨9, _⟩ => ⟨S2x512x512, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) (c0_i32_8 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.muli v2 c2_i32
  let c0_i32_15 : BitVec 32 := 0#32
  let c8_i32_5 : BitVec 32 := 8#32
  let v8 : BitVec 32 := Scalar.addi v2 c8_i32_5
  let v9 : BitVec 32 := Scalar.subi v8 c0_i32
  let c8_i32_6 : BitVec 32 := 8#32
  let v10 : BitVec 32 := Scalar.remsi v9 c8_i32_6
  let c8_i32_7 : BitVec 32 := 8#32
  let v12 : BitVec 32 := Scalar.muli v10 c8_i32_7
  let v13 : BitVec 32 := Scalar.addi v12 c0_i32_8
  let c0_i32_16 : BitVec 32 := 0#32
  ![v11.toNat, 0, v13.toNat, 0]
def k0_dev1 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_178 : BitVec 32 := 1#32
  let v156 : BitVec 32 := Scalar.muli v5 c1_i32_178
  let v157 : BitVec 32 := Scalar.addi c0_i32_179 v156
  v157.toNat
def k0_dev2 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_181 : BitVec 32 := 1#32
  let v158 : BitVec 32 := Scalar.muli v7 c1_i32_181
  let v159 : BitVec 32 := Scalar.addi c0_i32_182 v158
  v159.toNat
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v163 : Index := Scalar.indexCast v2
  let c0_185 : Index := 0#32
  let c0_186 : Index := 0#32
  ![v163.toNat, 0, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v170 : Index := Scalar.indexCast v2
  let c0_189 : Index := 0#32
  let c0_190 : Index := 0#32
  ![v170.toNat, 0, 0]
def k0_off4 (d0 : Dev nD) (c0_i32_195 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_194 : BitVec 32 := 8#32
  let v183 : BitVec 32 := Scalar.addi v2 c8_i32_194
  let v184 : BitVec 32 := Scalar.subi v183 c0_i32_195
  let c8_i32_196 : BitVec 32 := 8#32
  let v185 : BitVec 32 := Scalar.remsi v184 c8_i32_196
  let c0_i32_380 : BitVec 32 := 0#32
  let c0_i32_381 : BitVec 32 := 0#32
  ![v185.toNat, 0, 0]
def k0_dev3 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_378 : BitVec 32 := 1#32
  let v333 : BitVec 32 := Scalar.muli v7 c1_i32_378
  let v334 : BitVec 32 := Scalar.addi c0_i32_379 v333
  v334.toNat
def k0_off5 (d0 : Dev nD) (c0_i32_195 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_194 : BitVec 32 := 8#32
  let v183 : BitVec 32 := Scalar.addi v2 c8_i32_194
  let v184 : BitVec 32 := Scalar.subi v183 c0_i32_195
  let c8_i32_196 : BitVec 32 := 8#32
  let v185 : BitVec 32 := Scalar.remsi v184 c8_i32_196
  let c0_i32_388 : BitVec 32 := 0#32
  let c0_i32_389 : BitVec 32 := 0#32
  ![v185.toNat, 0, 0]
def k0_dev4 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_386 : BitVec 32 := 1#32
  let v343 : BitVec 32 := Scalar.muli v7 c1_i32_386
  let v344 : BitVec 32 := Scalar.addi c0_i32_387 v343
  v344.toNat
def k0_off6 (d0 : Dev nD) (c0_i32_195 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_194 : BitVec 32 := 8#32
  let v183 : BitVec 32 := Scalar.addi v2 c8_i32_194
  let v184 : BitVec 32 := Scalar.subi v183 c0_i32_195
  let c8_i32_196 : BitVec 32 := 8#32
  let v185 : BitVec 32 := Scalar.remsi v184 c8_i32_196
  let v353 : Index := Scalar.indexCast v185
  let c0_392 : Index := 0#32
  let c0_393 : Index := 0#32
  ![v353.toNat, 0, 0]
def k0_off7 (d0 : Dev nD) (c0_i32_195 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_194 : BitVec 32 := 8#32
  let v183 : BitVec 32 := Scalar.addi v2 c8_i32_194
  let v184 : BitVec 32 := Scalar.subi v183 c0_i32_195
  let c8_i32_196 : BitVec 32 := 8#32
  let v185 : BitVec 32 := Scalar.remsi v184 c8_i32_196
  let v356 : Index := Scalar.indexCast v185
  let c0_394 : Index := 0#32
  let c0_395 : Index := 0#32
  ![v356.toNat, 0, 0]
@[reducible] def k0_t1_loop : Scf.Loop 32 :=
  let c0_i32_558 : BitVec 32 := 0#32
  let c8_i32_559 : BitVec 32 := 8#32
  let v459 : BitVec 32 := Scalar.addi c0_i32_558 c8_i32_559
  let c1_i32_560 : BitVec 32 := 1#32
  ⟨c0_i32_558, v459, c1_i32_560⟩
def k0_off8 (k0_t1 : Fin k0_t1_loop.trips) : Fin 2 → Nat :=
  let c0_i32_558 : BitVec 32 := 0#32
  let c1_i32_560 : BitVec 32 := 1#32
  let arg18 : BitVec 32 := Scf.iv c0_i32_558 c1_i32_560 k0_t1
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let c512_i32 : BitVec 32 := 512#32
  let v2584 : BitVec 32 := Scalar.muli v2582 c512_i32
  let v2587 : Index := Scalar.indexCast v2584
  let c4_i32_3320 : BitVec 32 := 4#32
  let v2583 : BitVec 32 := Scalar.remsi arg18 c4_i32_3320
  let c2_i32_3321 : BitVec 32 := 2#32
  let v2585 : BitVec 32 := Scalar.muli v2583 c2_i32_3321
  let c64_i32 : BitVec 32 := 64#32
  let v2586 : BitVec 32 := Scalar.muli v2585 c64_i32
  let v2588 : Index := Scalar.indexCast v2586
  ![v2587.toNat, v2588.toNat]
def k0_off9 (k0_t1 : Fin k0_t1_loop.trips) (c0_i32_3323 : BitVec 32) : Fin 5 → Nat :=
  let c0_3324 : Index := 0#32
  let c0_i32_558 : BitVec 32 := 0#32
  let c1_i32_560 : BitVec 32 := 1#32
  let arg18 : BitVec 32 := Scf.iv c0_i32_558 c1_i32_560 k0_t1
  let c4_i32_3320 : BitVec 32 := 4#32
  let v2583 : BitVec 32 := Scalar.remsi arg18 c4_i32_3320
  let c2_i32_3322 : BitVec 32 := 2#32
  let v2590 : BitVec 32 := Scalar.muli v2583 c2_i32_3322
  let v2591 : BitVec 32 := Scalar.addi v2590 c0_i32_3323
  let v2593 : Index := Scalar.indexCast v2591
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2594 : Index := Scalar.indexCast v2582
  let c0_3325 : Index := 0#32
  let c0_3326 : Index := 0#32
  ![0, v2593.toNat, v2594.toNat, 0, 0]
def k0_off10 (k0_t1 : Fin k0_t1_loop.trips) : Fin 3 → Nat :=
  let c0_i32_558 : BitVec 32 := 0#32
  let c1_i32_560 : BitVec 32 := 1#32
  let arg18 : BitVec 32 := Scf.iv c0_i32_558 c1_i32_560 k0_t1
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2650 : Index := Scalar.indexCast v2582
  let c0_3352 : Index := 0#32
  let c4_i32_3320 : BitVec 32 := 4#32
  let v2583 : BitVec 32 := Scalar.remsi arg18 c4_i32_3320
  let c2_i32_3350 : BitVec 32 := 2#32
  let v2648 : BitVec 32 := Scalar.muli v2583 c2_i32_3350
  let c64_i32_3351 : BitVec 32 := 64#32
  let v2649 : BitVec 32 := Scalar.muli v2648 c64_i32_3351
  let v2651 : Index := Scalar.indexCast v2649
  ![v2650.toNat, 0, v2651.toNat]
def k0_dev5 (d0 : Dev nD) : Nat :=
  let c0_i32_790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_789 : BitVec 32 := 1#32
  let v650 : BitVec 32 := Scalar.muli v7 c1_i32_789
  let v651 : BitVec 32 := Scalar.addi c0_i32_790 v650
  v651.toNat
def k0_dev6 (d0 : Dev nD) : Nat :=
  let c0_i32_798 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_797 : BitVec 32 := 1#32
  let v660 : BitVec 32 := Scalar.muli v7 c1_i32_797
  let v661 : BitVec 32 := Scalar.addi c0_i32_798 v660
  v661.toNat
@[reducible] def k0_t2_loop : Scf.Loop 32 :=
  let c0_i32_970 : BitVec 32 := 0#32
  let c8_i32_971 : BitVec 32 := 8#32
  let v776 : BitVec 32 := Scalar.addi c0_i32_970 c8_i32_971
  let c1_i32_972 : BitVec 32 := 1#32
  ⟨c0_i32_970, v776, c1_i32_972⟩
def k0_off11 (k0_t2 : Fin k0_t2_loop.trips) : Fin 2 → Nat :=
  let c0_i32_970 : BitVec 32 := 0#32
  let c1_i32_972 : BitVec 32 := 1#32
  let arg18 : BitVec 32 := Scf.iv c0_i32_970 c1_i32_972 k0_t2
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let c512_i32 : BitVec 32 := 512#32
  let v2584 : BitVec 32 := Scalar.muli v2582 c512_i32
  let v2587 : Index := Scalar.indexCast v2584
  let c4_i32_3320 : BitVec 32 := 4#32
  let v2583 : BitVec 32 := Scalar.remsi arg18 c4_i32_3320
  let c2_i32_3321 : BitVec 32 := 2#32
  let v2585 : BitVec 32 := Scalar.muli v2583 c2_i32_3321
  let c64_i32 : BitVec 32 := 64#32
  let v2586 : BitVec 32 := Scalar.muli v2585 c64_i32
  let v2588 : Index := Scalar.indexCast v2586
  ![v2587.toNat, v2588.toNat]
def k0_off12 (k0_t2 : Fin k0_t2_loop.trips) (c0_i32_3323 : BitVec 32) : Fin 5 → Nat :=
  let c1_3324 : Index := 1#32
  let c0_i32_970 : BitVec 32 := 0#32
  let c1_i32_972 : BitVec 32 := 1#32
  let arg18 : BitVec 32 := Scf.iv c0_i32_970 c1_i32_972 k0_t2
  let c4_i32_3320 : BitVec 32 := 4#32
  let v2583 : BitVec 32 := Scalar.remsi arg18 c4_i32_3320
  let c2_i32_3322 : BitVec 32 := 2#32
  let v2590 : BitVec 32 := Scalar.muli v2583 c2_i32_3322
  let v2591 : BitVec 32 := Scalar.addi v2590 c0_i32_3323
  let v2593 : Index := Scalar.indexCast v2591
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2594 : Index := Scalar.indexCast v2582
  let c0_3325 : Index := 0#32
  let c0_3326 : Index := 0#32
  ![1, v2593.toNat, v2594.toNat, 0, 0]
def k0_off13 (k0_t2 : Fin k0_t2_loop.trips) : Fin 3 → Nat :=
  let c0_i32_970 : BitVec 32 := 0#32
  let c1_i32_972 : BitVec 32 := 1#32
  let arg18 : BitVec 32 := Scf.iv c0_i32_970 c1_i32_972 k0_t2
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2650 : Index := Scalar.indexCast v2582
  let c0_3352 : Index := 0#32
  let c4_i32_3320 : BitVec 32 := 4#32
  let v2583 : BitVec 32 := Scalar.remsi arg18 c4_i32_3320
  let c2_i32_3350 : BitVec 32 := 2#32
  let v2648 : BitVec 32 := Scalar.muli v2583 c2_i32_3350
  let c64_i32_3351 : BitVec 32 := 64#32
  let v2649 : BitVec 32 := Scalar.muli v2648 c64_i32_3351
  let v2651 : Index := Scalar.indexCast v2649
  ![v2650.toNat, 0, v2651.toNat]
def k0_dev7 (d0 : Dev nD) : Nat :=
  let c0_i32_1209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1208 : BitVec 32 := 1#32
  let v973 : BitVec 32 := Scalar.muli v7 c1_i32_1208
  let v974 : BitVec 32 := Scalar.addi c0_i32_1209 v973
  v974.toNat
def k0_dev8 (d0 : Dev nD) : Nat :=
  let c0_i32_1217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1216 : BitVec 32 := 1#32
  let v983 : BitVec 32 := Scalar.muli v7 c1_i32_1216
  let v984 : BitVec 32 := Scalar.addi c0_i32_1217 v983
  v984.toNat
@[reducible] def k0_t3_loop : Scf.Loop 32 :=
  let c0_i32_1389 : BitVec 32 := 0#32
  let c8_i32_1390 : BitVec 32 := 8#32
  let v1099 : BitVec 32 := Scalar.addi c0_i32_1389 c8_i32_1390
  let c1_i32_1391 : BitVec 32 := 1#32
  ⟨c0_i32_1389, v1099, c1_i32_1391⟩
def k0_off14 (k0_t3 : Fin k0_t3_loop.trips) : Fin 2 → Nat :=
  let c0_i32_1389 : BitVec 32 := 0#32
  let c1_i32_1391 : BitVec 32 := 1#32
  let arg18 : BitVec 32 := Scf.iv c0_i32_1389 c1_i32_1391 k0_t3
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let c512_i32 : BitVec 32 := 512#32
  let v2584 : BitVec 32 := Scalar.muli v2582 c512_i32
  let v2587 : Index := Scalar.indexCast v2584
  let c4_i32_3320 : BitVec 32 := 4#32
  let v2583 : BitVec 32 := Scalar.remsi arg18 c4_i32_3320
  let c2_i32_3321 : BitVec 32 := 2#32
  let v2585 : BitVec 32 := Scalar.muli v2583 c2_i32_3321
  let c64_i32 : BitVec 32 := 64#32
  let v2586 : BitVec 32 := Scalar.muli v2585 c64_i32
  let v2588 : Index := Scalar.indexCast v2586
  ![v2587.toNat, v2588.toNat]
def k0_off15 (k0_t3 : Fin k0_t3_loop.trips) (c0_i32_3323 : BitVec 32) : Fin 5 → Nat :=
  let c0_3324 : Index := 0#32
  let c0_i32_1389 : BitVec 32 := 0#32
  let c1_i32_1391 : BitVec 32 := 1#32
  let arg18 : BitVec 32 := Scf.iv c0_i32_1389 c1_i32_1391 k0_t3
  let c4_i32_3320 : BitVec 32 := 4#32
  let v2583 : BitVec 32 := Scalar.remsi arg18 c4_i32_3320
  let c2_i32_3322 : BitVec 32 := 2#32
  let v2590 : BitVec 32 := Scalar.muli v2583 c2_i32_3322
  let v2591 : BitVec 32 := Scalar.addi v2590 c0_i32_3323
  let v2593 : Index := Scalar.indexCast v2591
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2594 : Index := Scalar.indexCast v2582
  let c0_3325 : Index := 0#32
  let c0_3326 : Index := 0#32
  ![0, v2593.toNat, v2594.toNat, 0, 0]
def k0_off16 (k0_t3 : Fin k0_t3_loop.trips) : Fin 3 → Nat :=
  let c0_i32_1389 : BitVec 32 := 0#32
  let c1_i32_1391 : BitVec 32 := 1#32
  let arg18 : BitVec 32 := Scf.iv c0_i32_1389 c1_i32_1391 k0_t3
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2650 : Index := Scalar.indexCast v2582
  let c0_3352 : Index := 0#32
  let c4_i32_3320 : BitVec 32 := 4#32
  let v2583 : BitVec 32 := Scalar.remsi arg18 c4_i32_3320
  let c2_i32_3350 : BitVec 32 := 2#32
  let v2648 : BitVec 32 := Scalar.muli v2583 c2_i32_3350
  let c64_i32_3351 : BitVec 32 := 64#32
  let v2649 : BitVec 32 := Scalar.muli v2648 c64_i32_3351
  let v2651 : Index := Scalar.indexCast v2649
  ![v2650.toNat, 0, v2651.toNat]
def k0_dev9 (d0 : Dev nD) : Nat :=
  let c0_i32_1628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1627 : BitVec 32 := 1#32
  let v1296 : BitVec 32 := Scalar.muli v7 c1_i32_1627
  let v1297 : BitVec 32 := Scalar.addi c0_i32_1628 v1296
  v1297.toNat
def k0_dev10 (d0 : Dev nD) : Nat :=
  let c0_i32_1636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1635 : BitVec 32 := 1#32
  let v1306 : BitVec 32 := Scalar.muli v7 c1_i32_1635
  let v1307 : BitVec 32 := Scalar.addi c0_i32_1636 v1306
  v1307.toNat
@[reducible] def k0_t4_loop : Scf.Loop 32 :=
  let c0_i32_1808 : BitVec 32 := 0#32
  let c8_i32_1809 : BitVec 32 := 8#32
  let v1422 : BitVec 32 := Scalar.addi c0_i32_1808 c8_i32_1809
  let c1_i32_1810 : BitVec 32 := 1#32
  ⟨c0_i32_1808, v1422, c1_i32_1810⟩
def k0_off17 (k0_t4 : Fin k0_t4_loop.trips) : Fin 2 → Nat :=
  let c0_i32_1808 : BitVec 32 := 0#32
  let c1_i32_1810 : BitVec 32 := 1#32
  let arg18 : BitVec 32 := Scf.iv c0_i32_1808 c1_i32_1810 k0_t4
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let c512_i32 : BitVec 32 := 512#32
  let v2584 : BitVec 32 := Scalar.muli v2582 c512_i32
  let v2587 : Index := Scalar.indexCast v2584
  let c4_i32_3320 : BitVec 32 := 4#32
  let v2583 : BitVec 32 := Scalar.remsi arg18 c4_i32_3320
  let c2_i32_3321 : BitVec 32 := 2#32
  let v2585 : BitVec 32 := Scalar.muli v2583 c2_i32_3321
  let c64_i32 : BitVec 32 := 64#32
  let v2586 : BitVec 32 := Scalar.muli v2585 c64_i32
  let v2588 : Index := Scalar.indexCast v2586
  ![v2587.toNat, v2588.toNat]
def k0_off18 (k0_t4 : Fin k0_t4_loop.trips) (c0_i32_3323 : BitVec 32) : Fin 5 → Nat :=
  let c1_3324 : Index := 1#32
  let c0_i32_1808 : BitVec 32 := 0#32
  let c1_i32_1810 : BitVec 32 := 1#32
  let arg18 : BitVec 32 := Scf.iv c0_i32_1808 c1_i32_1810 k0_t4
  let c4_i32_3320 : BitVec 32 := 4#32
  let v2583 : BitVec 32 := Scalar.remsi arg18 c4_i32_3320
  let c2_i32_3322 : BitVec 32 := 2#32
  let v2590 : BitVec 32 := Scalar.muli v2583 c2_i32_3322
  let v2591 : BitVec 32 := Scalar.addi v2590 c0_i32_3323
  let v2593 : Index := Scalar.indexCast v2591
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2594 : Index := Scalar.indexCast v2582
  let c0_3325 : Index := 0#32
  let c0_3326 : Index := 0#32
  ![1, v2593.toNat, v2594.toNat, 0, 0]
def k0_off19 (k0_t4 : Fin k0_t4_loop.trips) : Fin 3 → Nat :=
  let c0_i32_1808 : BitVec 32 := 0#32
  let c1_i32_1810 : BitVec 32 := 1#32
  let arg18 : BitVec 32 := Scf.iv c0_i32_1808 c1_i32_1810 k0_t4
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2650 : Index := Scalar.indexCast v2582
  let c0_3352 : Index := 0#32
  let c4_i32_3320 : BitVec 32 := 4#32
  let v2583 : BitVec 32 := Scalar.remsi arg18 c4_i32_3320
  let c2_i32_3350 : BitVec 32 := 2#32
  let v2648 : BitVec 32 := Scalar.muli v2583 c2_i32_3350
  let c64_i32_3351 : BitVec 32 := 64#32
  let v2649 : BitVec 32 := Scalar.muli v2648 c64_i32_3351
  let v2651 : Index := Scalar.indexCast v2649
  ![v2650.toNat, 0, v2651.toNat]
def k0_dev11 (d0 : Dev nD) : Nat :=
  let c0_i32_2047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2046 : BitVec 32 := 1#32
  let v1619 : BitVec 32 := Scalar.muli v7 c1_i32_2046
  let v1620 : BitVec 32 := Scalar.addi c0_i32_2047 v1619
  v1620.toNat
def k0_dev12 (d0 : Dev nD) : Nat :=
  let c0_i32_2055 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2054 : BitVec 32 := 1#32
  let v1629 : BitVec 32 := Scalar.muli v7 c1_i32_2054
  let v1630 : BitVec 32 := Scalar.addi c0_i32_2055 v1629
  v1630.toNat
@[reducible] def k0_t5_loop : Scf.Loop 32 :=
  let c0_i32_2227 : BitVec 32 := 0#32
  let c8_i32_2228 : BitVec 32 := 8#32
  let v1745 : BitVec 32 := Scalar.addi c0_i32_2227 c8_i32_2228
  let c1_i32_2229 : BitVec 32 := 1#32
  ⟨c0_i32_2227, v1745, c1_i32_2229⟩
def k0_off20 (k0_t5 : Fin k0_t5_loop.trips) : Fin 2 → Nat :=
  let c0_i32_2227 : BitVec 32 := 0#32
  let c1_i32_2229 : BitVec 32 := 1#32
  let arg18 : BitVec 32 := Scf.iv c0_i32_2227 c1_i32_2229 k0_t5
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let c512_i32 : BitVec 32 := 512#32
  let v2584 : BitVec 32 := Scalar.muli v2582 c512_i32
  let v2587 : Index := Scalar.indexCast v2584
  let c4_i32_3320 : BitVec 32 := 4#32
  let v2583 : BitVec 32 := Scalar.remsi arg18 c4_i32_3320
  let c2_i32_3321 : BitVec 32 := 2#32
  let v2585 : BitVec 32 := Scalar.muli v2583 c2_i32_3321
  let c64_i32 : BitVec 32 := 64#32
  let v2586 : BitVec 32 := Scalar.muli v2585 c64_i32
  let v2588 : Index := Scalar.indexCast v2586
  ![v2587.toNat, v2588.toNat]
def k0_off21 (k0_t5 : Fin k0_t5_loop.trips) (c0_i32_3323 : BitVec 32) : Fin 5 → Nat :=
  let c0_3324 : Index := 0#32
  let c0_i32_2227 : BitVec 32 := 0#32
  let c1_i32_2229 : BitVec 32 := 1#32
  let arg18 : BitVec 32 := Scf.iv c0_i32_2227 c1_i32_2229 k0_t5
  let c4_i32_3320 : BitVec 32 := 4#32
  let v2583 : BitVec 32 := Scalar.remsi arg18 c4_i32_3320
  let c2_i32_3322 : BitVec 32 := 2#32
  let v2590 : BitVec 32 := Scalar.muli v2583 c2_i32_3322
  let v2591 : BitVec 32 := Scalar.addi v2590 c0_i32_3323
  let v2593 : Index := Scalar.indexCast v2591
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2594 : Index := Scalar.indexCast v2582
  let c0_3325 : Index := 0#32
  let c0_3326 : Index := 0#32
  ![0, v2593.toNat, v2594.toNat, 0, 0]
def k0_off22 (k0_t5 : Fin k0_t5_loop.trips) : Fin 3 → Nat :=
  let c0_i32_2227 : BitVec 32 := 0#32
  let c1_i32_2229 : BitVec 32 := 1#32
  let arg18 : BitVec 32 := Scf.iv c0_i32_2227 c1_i32_2229 k0_t5
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2650 : Index := Scalar.indexCast v2582
  let c0_3352 : Index := 0#32
  let c4_i32_3320 : BitVec 32 := 4#32
  let v2583 : BitVec 32 := Scalar.remsi arg18 c4_i32_3320
  let c2_i32_3350 : BitVec 32 := 2#32
  let v2648 : BitVec 32 := Scalar.muli v2583 c2_i32_3350
  let c64_i32_3351 : BitVec 32 := 64#32
  let v2649 : BitVec 32 := Scalar.muli v2648 c64_i32_3351
  let v2651 : Index := Scalar.indexCast v2649
  ![v2650.toNat, 0, v2651.toNat]
def k0_dev13 (d0 : Dev nD) : Nat :=
  let c0_i32_2466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2465 : BitVec 32 := 1#32
  let v1942 : BitVec 32 := Scalar.muli v7 c1_i32_2465
  let v1943 : BitVec 32 := Scalar.addi c0_i32_2466 v1942
  v1943.toNat
def k0_dev14 (d0 : Dev nD) : Nat :=
  let c0_i32_2474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2473 : BitVec 32 := 1#32
  let v1952 : BitVec 32 := Scalar.muli v7 c1_i32_2473
  let v1953 : BitVec 32 := Scalar.addi c0_i32_2474 v1952
  v1953.toNat
@[reducible] def k0_t6_loop : Scf.Loop 32 :=
  let c0_i32_2646 : BitVec 32 := 0#32
  let c8_i32_2647 : BitVec 32 := 8#32
  let v2068 : BitVec 32 := Scalar.addi c0_i32_2646 c8_i32_2647
  let c1_i32_2648 : BitVec 32 := 1#32
  ⟨c0_i32_2646, v2068, c1_i32_2648⟩
def k0_off23 (k0_t6 : Fin k0_t6_loop.trips) : Fin 2 → Nat :=
  let c0_i32_2646 : BitVec 32 := 0#32
  let c1_i32_2648 : BitVec 32 := 1#32
  let arg18 : BitVec 32 := Scf.iv c0_i32_2646 c1_i32_2648 k0_t6
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let c512_i32 : BitVec 32 := 512#32
  let v2584 : BitVec 32 := Scalar.muli v2582 c512_i32
  let v2587 : Index := Scalar.indexCast v2584
  let c4_i32_3320 : BitVec 32 := 4#32
  let v2583 : BitVec 32 := Scalar.remsi arg18 c4_i32_3320
  let c2_i32_3321 : BitVec 32 := 2#32
  let v2585 : BitVec 32 := Scalar.muli v2583 c2_i32_3321
  let c64_i32 : BitVec 32 := 64#32
  let v2586 : BitVec 32 := Scalar.muli v2585 c64_i32
  let v2588 : Index := Scalar.indexCast v2586
  ![v2587.toNat, v2588.toNat]
def k0_off24 (k0_t6 : Fin k0_t6_loop.trips) (c0_i32_3323 : BitVec 32) : Fin 5 → Nat :=
  let c1_3324 : Index := 1#32
  let c0_i32_2646 : BitVec 32 := 0#32
  let c1_i32_2648 : BitVec 32 := 1#32
  let arg18 : BitVec 32 := Scf.iv c0_i32_2646 c1_i32_2648 k0_t6
  let c4_i32_3320 : BitVec 32 := 4#32
  let v2583 : BitVec 32 := Scalar.remsi arg18 c4_i32_3320
  let c2_i32_3322 : BitVec 32 := 2#32
  let v2590 : BitVec 32 := Scalar.muli v2583 c2_i32_3322
  let v2591 : BitVec 32 := Scalar.addi v2590 c0_i32_3323
  let v2593 : Index := Scalar.indexCast v2591
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2594 : Index := Scalar.indexCast v2582
  let c0_3325 : Index := 0#32
  let c0_3326 : Index := 0#32
  ![1, v2593.toNat, v2594.toNat, 0, 0]
def k0_off25 (k0_t6 : Fin k0_t6_loop.trips) : Fin 3 → Nat :=
  let c0_i32_2646 : BitVec 32 := 0#32
  let c1_i32_2648 : BitVec 32 := 1#32
  let arg18 : BitVec 32 := Scf.iv c0_i32_2646 c1_i32_2648 k0_t6
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2650 : Index := Scalar.indexCast v2582
  let c0_3352 : Index := 0#32
  let c4_i32_3320 : BitVec 32 := 4#32
  let v2583 : BitVec 32 := Scalar.remsi arg18 c4_i32_3320
  let c2_i32_3350 : BitVec 32 := 2#32
  let v2648 : BitVec 32 := Scalar.muli v2583 c2_i32_3350
  let c64_i32_3351 : BitVec 32 := 64#32
  let v2649 : BitVec 32 := Scalar.muli v2648 c64_i32_3351
  let v2651 : Index := Scalar.indexCast v2649
  ![v2650.toNat, 0, v2651.toNat]
def k0_dev15 (d0 : Dev nD) : Nat :=
  let c0_i32_2885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2884 : BitVec 32 := 1#32
  let v2265 : BitVec 32 := Scalar.muli v7 c1_i32_2884
  let v2266 : BitVec 32 := Scalar.addi c0_i32_2885 v2265
  v2266.toNat
def k0_dev16 (d0 : Dev nD) : Nat :=
  let c0_i32_2893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2892 : BitVec 32 := 1#32
  let v2275 : BitVec 32 := Scalar.muli v7 c1_i32_2892
  let v2276 : BitVec 32 := Scalar.addi c0_i32_2893 v2275
  v2276.toNat
@[reducible] def k0_t7_loop : Scf.Loop 32 :=
  let c0_i32_3065 : BitVec 32 := 0#32
  let c8_i32_3066 : BitVec 32 := 8#32
  let v2391 : BitVec 32 := Scalar.addi c0_i32_3065 c8_i32_3066
  let c1_i32_3067 : BitVec 32 := 1#32
  ⟨c0_i32_3065, v2391, c1_i32_3067⟩
def k0_off26 (k0_t7 : Fin k0_t7_loop.trips) : Fin 2 → Nat :=
  let c0_i32_3065 : BitVec 32 := 0#32
  let c1_i32_3067 : BitVec 32 := 1#32
  let arg18 : BitVec 32 := Scf.iv c0_i32_3065 c1_i32_3067 k0_t7
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let c512_i32 : BitVec 32 := 512#32
  let v2584 : BitVec 32 := Scalar.muli v2582 c512_i32
  let v2587 : Index := Scalar.indexCast v2584
  let c4_i32_3320 : BitVec 32 := 4#32
  let v2583 : BitVec 32 := Scalar.remsi arg18 c4_i32_3320
  let c2_i32_3321 : BitVec 32 := 2#32
  let v2585 : BitVec 32 := Scalar.muli v2583 c2_i32_3321
  let c64_i32 : BitVec 32 := 64#32
  let v2586 : BitVec 32 := Scalar.muli v2585 c64_i32
  let v2588 : Index := Scalar.indexCast v2586
  ![v2587.toNat, v2588.toNat]
def k0_off27 (k0_t7 : Fin k0_t7_loop.trips) (c0_i32_3323 : BitVec 32) : Fin 5 → Nat :=
  let c0_3324 : Index := 0#32
  let c0_i32_3065 : BitVec 32 := 0#32
  let c1_i32_3067 : BitVec 32 := 1#32
  let arg18 : BitVec 32 := Scf.iv c0_i32_3065 c1_i32_3067 k0_t7
  let c4_i32_3320 : BitVec 32 := 4#32
  let v2583 : BitVec 32 := Scalar.remsi arg18 c4_i32_3320
  let c2_i32_3322 : BitVec 32 := 2#32
  let v2590 : BitVec 32 := Scalar.muli v2583 c2_i32_3322
  let v2591 : BitVec 32 := Scalar.addi v2590 c0_i32_3323
  let v2593 : Index := Scalar.indexCast v2591
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2594 : Index := Scalar.indexCast v2582
  let c0_3325 : Index := 0#32
  let c0_3326 : Index := 0#32
  ![0, v2593.toNat, v2594.toNat, 0, 0]
def k0_off28 (k0_t7 : Fin k0_t7_loop.trips) : Fin 3 → Nat :=
  let c0_i32_3065 : BitVec 32 := 0#32
  let c1_i32_3067 : BitVec 32 := 1#32
  let arg18 : BitVec 32 := Scf.iv c0_i32_3065 c1_i32_3067 k0_t7
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2650 : Index := Scalar.indexCast v2582
  let c0_3352 : Index := 0#32
  let c4_i32_3320 : BitVec 32 := 4#32
  let v2583 : BitVec 32 := Scalar.remsi arg18 c4_i32_3320
  let c2_i32_3350 : BitVec 32 := 2#32
  let v2648 : BitVec 32 := Scalar.muli v2583 c2_i32_3350
  let c64_i32_3351 : BitVec 32 := 64#32
  let v2649 : BitVec 32 := Scalar.muli v2648 c64_i32_3351
  let v2651 : Index := Scalar.indexCast v2649
  ![v2650.toNat, 0, v2651.toNat]
@[reducible] def k0_t8_loop : Scf.Loop 32 :=
  let c0_i32_3289 : BitVec 32 := 0#32
  let c8_i32_3290 : BitVec 32 := 8#32
  let v2547 : BitVec 32 := Scalar.addi c0_i32_3289 c8_i32_3290
  let c1_i32_3291 : BitVec 32 := 1#32
  ⟨c0_i32_3289, v2547, c1_i32_3291⟩
def k0_off29 (k0_t8 : Fin k0_t8_loop.trips) : Fin 2 → Nat :=
  let c0_i32_3289 : BitVec 32 := 0#32
  let c1_i32_3291 : BitVec 32 := 1#32
  let arg18 : BitVec 32 := Scf.iv c0_i32_3289 c1_i32_3291 k0_t8
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let c512_i32 : BitVec 32 := 512#32
  let v2584 : BitVec 32 := Scalar.muli v2582 c512_i32
  let v2587 : Index := Scalar.indexCast v2584
  let c4_i32_3320 : BitVec 32 := 4#32
  let v2583 : BitVec 32 := Scalar.remsi arg18 c4_i32_3320
  let c2_i32_3321 : BitVec 32 := 2#32
  let v2585 : BitVec 32 := Scalar.muli v2583 c2_i32_3321
  let c64_i32 : BitVec 32 := 64#32
  let v2586 : BitVec 32 := Scalar.muli v2585 c64_i32
  let v2588 : Index := Scalar.indexCast v2586
  ![v2587.toNat, v2588.toNat]
def k0_off30 (k0_t8 : Fin k0_t8_loop.trips) (c0_i32_3323 : BitVec 32) : Fin 5 → Nat :=
  let c1_3324 : Index := 1#32
  let c0_i32_3289 : BitVec 32 := 0#32
  let c1_i32_3291 : BitVec 32 := 1#32
  let arg18 : BitVec 32 := Scf.iv c0_i32_3289 c1_i32_3291 k0_t8
  let c4_i32_3320 : BitVec 32 := 4#32
  let v2583 : BitVec 32 := Scalar.remsi arg18 c4_i32_3320
  let c2_i32_3322 : BitVec 32 := 2#32
  let v2590 : BitVec 32 := Scalar.muli v2583 c2_i32_3322
  let v2591 : BitVec 32 := Scalar.addi v2590 c0_i32_3323
  let v2593 : Index := Scalar.indexCast v2591
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2594 : Index := Scalar.indexCast v2582
  let c0_3325 : Index := 0#32
  let c0_3326 : Index := 0#32
  ![1, v2593.toNat, v2594.toNat, 0, 0]
def k0_off31 (k0_t8 : Fin k0_t8_loop.trips) : Fin 3 → Nat :=
  let c0_i32_3289 : BitVec 32 := 0#32
  let c1_i32_3291 : BitVec 32 := 1#32
  let arg18 : BitVec 32 := Scf.iv c0_i32_3289 c1_i32_3291 k0_t8
  let c0_i32_3314 : BitVec 32 := 0#32
  let v2567 : BitVec 1 := Scalar.cmpi .sgt arg18 c0_i32_3314
  let v2568 : BitVec 32 := Scalar.extui v2567
  let c0_i32_3315 : BitVec 32 := 0#32
  let v2569 : BitVec 1 := Scalar.cmpi .slt arg18 c0_i32_3315
  let v2570 : BitVec 32 := Scalar.extui v2569
  let v2571 : BitVec 32 := Scalar.subi v2568 v2570
  let c4_i32_3313 : BitVec 32 := 4#32
  let c0_i32_3316 : BitVec 32 := 0#32
  let v2572 : BitVec 1 := Scalar.cmpi .sgt c4_i32_3313 c0_i32_3316
  let v2573 : BitVec 32 := Scalar.extui v2572
  let c0_i32_3317 : BitVec 32 := 0#32
  let v2574 : BitVec 1 := Scalar.cmpi .slt c4_i32_3313 c0_i32_3317
  let v2575 : BitVec 32 := Scalar.extui v2574
  let v2576 : BitVec 32 := Scalar.subi v2573 v2575
  let v2577 : BitVec 1 := Scalar.cmpi .ne v2571 v2576
  let v2578 : BitVec 32 := Scalar.remsi arg18 c4_i32_3313
  let c0_i32_3318 : BitVec 32 := 0#32
  let v2579 : BitVec 1 := Scalar.cmpi .ne v2578 c0_i32_3318
  let v2580 : BitVec 1 := Scalar.andi v2577 v2579
  let v2566 : BitVec 32 := Scalar.divsi arg18 c4_i32_3313
  let c1_i32_3319 : BitVec 32 := 1#32
  let v2581 : BitVec 32 := Scalar.subi v2566 c1_i32_3319
  let v2582 : BitVec 32 := Scalar.select v2580 v2581 v2566
  let v2650 : Index := Scalar.indexCast v2582
  let c0_3352 : Index := 0#32
  let c4_i32_3320 : BitVec 32 := 4#32
  let v2583 : BitVec 32 := Scalar.remsi arg18 c4_i32_3320
  let c2_i32_3350 : BitVec 32 := 2#32
  let v2648 : BitVec 32 := Scalar.muli v2583 c2_i32_3350
  let c64_i32_3351 : BitVec 32 := 64#32
  let v2649 : BitVec 32 := Scalar.muli v2648 c64_i32_3351
  let v2651 : Index := Scalar.indexCast v2649
  ![v2650.toNat, 0, v2651.toNat]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S16x512x4096 : Shape := ⟨3, ![16, 512, 4096]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S16x64x512x512 : Shape := ⟨4, ![16, 64, 512, 512]⟩
abbrev S1x1x512x512 : Shape := ⟨4, ![1, 1, 512, 512]⟩
abbrev S16x64x512 : Shape := ⟨3, ![16, 64, 512]⟩
abbrev S16x64x512x1 : Shape := ⟨4, ![16, 64, 512, 1]⟩
abbrev S1x1x512x1 : Shape := ⟨4, ![1, 1, 512, 1]⟩
abbrev S16x64x64x512 : Shape := ⟨4, ![16, 64, 64, 512]⟩

abbrev nBuf : Space → Nat
  | .hbm => 57
  | .vmem => 0
  | .smem => 0
  | _ => 0

abbrev bufTy : (tb : Table) → Fin (tcTables nBuf tb) → BufTy
  | .hbm, ⟨0, _⟩ => ⟨S16x512x768, .f32⟩
  | .hbm, ⟨1, _⟩ => ⟨S768x4096, .f32⟩
  | .hbm, ⟨2, _⟩ => ⟨S16x512x64x64, .f32⟩
  | .hbm, ⟨3, _⟩ => ⟨S16x512x64x64, .f32⟩
  | .hbm, ⟨4, _⟩ => ⟨S4096x768, .f32⟩
  | .hbm, ⟨5, _⟩ => ⟨S16x512x4096, .f32⟩
  | .hbm, ⟨6, _⟩ => ⟨S16x512x64x64, .f32⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S16x64x512x512, .f32⟩
  | .hbm, ⟨19, _⟩ => ⟨S_, .f32⟩
  | .hbm, ⟨20, _⟩ => ⟨S16x64x512x512, .f32⟩
  | .hbm, ⟨21, _⟩ => ⟨S16x64x512x512, .f32⟩
  | .hbm, ⟨22, _⟩ => ⟨S1x1x512x512, .i1⟩
  | .hbm, ⟨23, _⟩ => ⟨S_, .f32⟩
  | .hbm, ⟨24, _⟩ => ⟨S_, .f32⟩
  | .hbm, ⟨25, _⟩ => ⟨S16x64x512x512, .i1⟩
  | .hbm, ⟨26, _⟩ => ⟨S16x64x512x512, .f32⟩
  | .hbm, ⟨27, _⟩ => ⟨S16x64x512x512, .f32⟩
  | .hbm, ⟨28, _⟩ => ⟨S_, .f32⟩
  | .hbm, ⟨29, _⟩ => ⟨S16x64x512, .f32⟩
  | .hbm, ⟨30, _⟩ => ⟨S16x64x512x1, .f32⟩
  | .hbm, ⟨31, _⟩ => ⟨S16x64x512x512, .f32⟩
  | .hbm, ⟨32, _⟩ => ⟨S16x64x512x512, .f32⟩
  | .hbm, ⟨33, _⟩ => ⟨S16x64x512x512, .f32⟩
  | .hbm, ⟨34, _⟩ => ⟨S_, .i1⟩
  | .hbm, ⟨35, _⟩ => ⟨S512, .i1⟩
  | .hbm, ⟨36, _⟩ => ⟨S1x1x512x1, .i1⟩
  | .hbm, ⟨37, _⟩ => ⟨S_, .f32⟩
  | .hbm, ⟨38, _⟩ => ⟨S16x64x512, .f32⟩
  | .hbm, ⟨39, _⟩ => ⟨S16x64x512x1, .f32⟩
  | .hbm, ⟨40, _⟩ => ⟨S_, .f32⟩
  | .hbm, ⟨41, _⟩ => ⟨S_, .f32⟩
  | .hbm, ⟨42, _⟩ => ⟨S16x64x512x1, .i1⟩
  | .hbm, ⟨43, _⟩ => ⟨S16x64x512x1, .f32⟩
  | .hbm, ⟨44, _⟩ => ⟨S16x64x512x1, .f32⟩
  | .hbm, ⟨45, _⟩ => ⟨S16x64x512x512, .f32⟩
  | .hbm, ⟨46, _⟩ => ⟨S16x64x512x512, .f32⟩
  | .hbm, ⟨47, _⟩ => ⟨S1x1x512x1, .i1⟩
  | .hbm, ⟨48, _⟩ => ⟨S_, .f32⟩
  | .hbm, ⟨49, _⟩ => ⟨S_, .f32⟩
  | .hbm, ⟨50, _⟩ => ⟨S16x64x512x512, .i1⟩
  | .hbm, ⟨51, _⟩ => ⟨S16x64x512x512, .f32⟩
  | .hbm, ⟨52, _⟩ => ⟨S16x64x512x512, .f32⟩
  | .hbm, ⟨53, _⟩ => ⟨S16x64x64x512, .f32⟩
  | .hbm, ⟨54, _⟩ => ⟨S16x512x64x64, .f32⟩
  | .hbm, ⟨55, _⟩ => ⟨S16x512x4096, .f32⟩
  | .hbm, ⟨56, _⟩ => ⟨S16x512x768, .f32⟩
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Steps.lean ====
/-
The kernel body, read hop by hop.

The printed body is one long list of operations: eight hops, each written out, each with its sixteen
copies, its sixteen waits and its loop. Here the same operations are given once, with the hop as an
argument, each block taking what follows it as its last argument. `body_eq` says that the printed body
is the eight hops in order.
-/
module

public import proofs.«01_k».proof.Proof.Gen.KernelIdeal.Points
public import proofs.«01_k».proof.Proof.Gen.KernelIdeal.Skeleton
public import Idealize.ShloMosaic.Lib.Pipeline.Regions

@[expose] public section

set_option synthInstance.maxSize 4096

noncomputable section

namespace Cert.KernelIdeal.Hops

open Idealize.ShloMosaic Idealize.SL.Sem Cert.KernelIdeal Cert.KernelIdeal.Gen

variable {F : FTy → Type} [FloatOps F]

/-- A program of the kernel's core, returning nothing. -/
abbrev Body (F : FTy → Type) : Type _ := Prog (TpuEff nD τ sig (Elt F) Λ₀ .tc) PUnit

/-! ## The buffers and cells -/

abbrev kHbm : Memref sig .tc .hbm S16x512x64x64 .f32 := Memref.whole main_arg2
abbrev vHbm : Memref sig .tc .hbm S16x512x64x64 .f32 := Memref.whole main_arg3
abbrev wqAll : Memref sig .tc .vmem S8x768x512 .f32 := Memref.whole cc0_scratch0
abbrev woAll : Memref sig .tc .vmem S8x512x768 .f32 := Memref.whole cc0_scratch1
abbrev kBuf : Memref sig .tc .vmem S2x8x2x512x64 .f32 := Memref.whole cc0_scratch2
abbrev vBuf : Memref sig .tc .vmem S2x8x2x512x64 .f32 := Memref.whole cc0_scratch3
abbrev qBuf : Memref sig .tc .vmem S1024x512 .f32 := Memref.whole cc0_scratch4
abbrev cBuf : Memref sig .tc .vmem S2x512x512 .f32 := Memref.whole cc0_scratch5

theorem cellInb2 (s : Fin 2) : ∀ a, (![s.val] : Fin 1 → Nat) a + S1.size a ≤ S2.size a := by
  revert s; decide

theorem cellInb7 (h : Fin 7) : ∀ a, (![h.val] : Fin 1 → Nat) a + S1.size a ≤ S7.size a := by
  revert h; decide

theorem kvInb (s : Fin 2) (n : Fin 8) :
    ∀ a, (![s.val, n.val, 0, 0, 0] : Fin 5 → Nat) a + S1x1x2x512x64.size a ≤ S2x8x2x512x64.size a := by
  revert s n; decide

/-- The cell of parity `s` in a pair of cells, and the cell of hop `h` in a row of seven. -/
abbrev cell2 (A : DmaSems sig S2) (s : Fin 2) : DmaSem sig :=
  ((A.slice (Rect.unit (s := S2) ![s.val] S1.size (cellInb2 s))).squeeze S_ squeezes_S1_S_).sem

abbrev cell7 (A : DmaSems sig S7) (h : Fin 7) : DmaSem sig :=
  ((A.slice (Rect.unit (s := S7) ![h.val] S1.size (cellInb7 h))).squeeze S_ squeezes_S1_S_).sem

/-- Head `n` of the block of K that device `c` reads at hop `h`, in the array `A`. -/
abbrev kvSrc (A : Memref sig .tc .hbm S16x512x64x64 .f32) (c : Dev nD) (h n : Fin 8) : Memref sig .tc .hbm S2x512x64 .f32 :=
  (A.slice (Rect.unit (s := S16x512x64x64) (k0_off1 c (BitVec.ofNat 32 h.val) (BitVec.ofNat 32 n.val)) S2x512x1x64.size
    (k0_off1_inb c h n)) (fun _ => rfl)).squeeze S2x512x64 squeezes_S2x512x1x64_S2x512x64

/-- Head `n` of parity `s` of a double buffer. -/
abbrev kvDst (A : Memref sig .tc .vmem S2x8x2x512x64 .f32) (s : Fin 2) (n : Fin 8) : Memref sig .tc .vmem S2x512x64 .f32 :=
  (A.slice (Rect.unit (s := S2x8x2x512x64) ![s.val, n.val, 0, 0, 0] S1x1x2x512x64.size (kvInb s n)) (fun _ => rfl)).squeeze
    S2x512x64 squeezes_S1x1x2x512x64_S2x512x64

/-- The block that the wait for a copy of K or V names as its source: one of the same size. -/
abbrev kvAny (A : Memref sig .tc .hbm S16x512x64x64 .f32) : Memref sig .tc .hbm S2x512x64 .f32 :=
  (A.slice (Rect.unit (s := S16x512x64x64) ![0, 0, 0, 0] S2x512x1x64.size inb_S16x512x64x64_S2x512x1x64_0_0_0_0)
    (fun _ => rfl)).squeeze S2x512x64 squeezes_S2x512x1x64_S2x512x64

/-- The block of Wq, and of Wo, that device `c` works on at hop `h`, in the gathered buffers. -/
abbrev wqSlot (c : Dev nD) (h : Fin 8) : Memref sig .tc .vmem S768x512 .f32 :=
  (wqAll.slice (Rect.unit (s := S8x768x512) (k0_off4 c (BitVec.ofNat 32 h.val)) S1x768x512.size (k0_off4_inb c h))
    (fun _ => rfl)).squeeze S768x512 squeezes_S1x768x512_S768x512

abbrev woSlot (c : Dev nD) (h : Fin 8) : Memref sig .tc .vmem S512x768 .f32 :=
  (woAll.slice (Rect.unit (s := S8x512x768) (k0_off5 c (BitVec.ofNat 32 h.val)) S1x512x768.size (k0_off5_inb c h))
    (fun _ => rfl)).squeeze S512x768 squeezes_S1x512x768_S512x768

/-- The neighbours, as the kernel computes them. -/
abbrev lft (c : Dev nD) : Dev nD := ⟨k0_dev1 c, k0_dev1_lt c⟩
abbrev rgt (c : Dev nD) : Dev nD := ⟨k0_dev2 c, k0_dev2_lt c⟩
abbrev rgtQ (c : Dev nD) : Dev nD := ⟨k0_dev3 c, k0_dev3_lt c⟩
abbrev rgtO (c : Dev nD) : Dev nD := ⟨k0_dev4 c, k0_dev4_lt c⟩

abbrev barSem : Sem sig := (SemArray.scalar (sig.barrier 0 rfl) : Sems sig S_).sem

/-- The parity of a hop: which half of the double buffers it reads. -/
abbrev par (h : Fin 8) : Fin 2 := ⟨h.val % 2, Nat.mod_lt _ (by decide)⟩

/-! ## Local copies of K and V -/

/-- Start the copy of head `n` of K, then of V, for hop `h`. -/
def startOne (c : Dev nD) (h n : Fin 8) (k : Body F) : Body F :=
  .op (.enqueueDma (kvSrc kHbm c h n) (.here (kvDst kBuf (par h) n)) (.dma (cell2 cc0_scratch6 (par h)))
      ((View.wordExact_bits rfl).reshape _ _) ((View.wordExact_bits rfl).reshape _ _) ⟨Or.inl rfl, trivial⟩) fun _ =>
  .op (.enqueueDma (kvSrc vHbm c h n) (.here (kvDst vBuf (par h) n)) (.dma (cell2 cc0_scratch7 (par h)))
      ((View.wordExact_bits rfl).reshape _ _) ((View.wordExact_bits rfl).reshape _ _) ⟨Or.inl rfl, trivial⟩) fun _ => k

def starts (c : Dev nD) (h : Fin 8) : List (Fin 8) → Body F → Body F
  | [], k => k
  | n :: l, k => startOne c h n (starts c h l k)

/-- Wait for one copy of K, then of V, into parity `s`. -/
def waitOne (s : Fin 2) (n : Fin 8) (k : Body F) : Body F :=
  .op (.waitDma2 (cell2 cc0_scratch6 s) (kvAny kHbm) (kvDst kBuf s n)
      ((View.wordExact_bits rfl).reshape _ _) ((View.wordExact_bits rfl).reshape _ _)) fun _ =>
  .op (.waitDma2 (cell2 cc0_scratch7 s) (kvAny vHbm) (kvDst vBuf s n)
      ((View.wordExact_bits rfl).reshape _ _) ((View.wordExact_bits rfl).reshape _ _)) fun _ => k

def waits (s : Fin 2) : List (Fin 8) → Body F → Body F
  | [], k => k
  | n :: l, k => waitOne s n (waits s l k)

abbrev heads : List (Fin 8) := [0, 1, 2, 3, 4, 5, 6, 7]

/-! ## The ring -/

/-- Tell both neighbours that this device is ready, and wait for both. -/
def meet (c : Dev nD) (k : Body F) : Body F :=
  .op (.semSignal (lft c, .tc) barSem (1#32 : BitVec 32).toInt) fun _ =>
  .op (.semSignal (rgt c, .tc) barSem (1#32 : BitVec 32).toInt) fun _ =>
  .op (.semWait barSem (2#32 : BitVec 32).toInt) fun _ => k

/-- Put the device's own blocks of Wq and Wo into the gathered buffers. -/
def own (arg1 : Memref sig .tc .vmem S768x512 .f32) (arg4 : Memref sig .tc .vmem S512x768 .f32) (c : Dev nD) (k : Body F) :
    Body F :=
  .op (.load arg1 (Rect.unit (s := S768x512) ![0, 0] S768x512.size inb_S768x512_S768x512_0_0).toLoadRect
    (View.loadsAt_vmem h_S768x512)) fun wq =>
  .op (.load wqAll (Rect.unit (s := S8x768x512) (k0_off2 c) S1x768x512.size (k0_off2_inb c)).toLoadRect
    (View.loadsAt_vmem h_S1x768x512)) fun _ =>
  .op (.store wqAll (Rect.unit (s := S8x768x512) (k0_off2 c) S1x768x512.size (k0_off2_inb c)) (k0_pay35 wq) Finset.univ
    (View.stores_vmem_bits_univ h_S1x768x512 rfl) (.inl rfl)) fun _ =>
  .op (.load arg4 (Rect.unit (s := S512x768) ![0, 0] S512x768.size inb_S512x768_S512x768_0_0).toLoadRect
    (View.loadsAt_vmem h_S512x768)) fun wo =>
  .op (.load woAll (Rect.unit (s := S8x512x768) (k0_off3 c) S1x512x768.size (k0_off3_inb c)).toLoadRect
    (View.loadsAt_vmem h_S1x512x768)) fun _ =>
  .op (.store woAll (Rect.unit (s := S8x512x768) (k0_off3 c) S1x512x768.size (k0_off3_inb c)) (k0_pay36 wo) Finset.univ
    (View.stores_vmem_bits_univ h_S1x512x768 rfl) (.inl rfl)) fun _ => k

/-- Wait for the blocks that the left neighbour sent at hop `h`; they are the ones of hop `h + 1` here. -/
def recvs (c : Dev nD) (h : Fin 7) (k : Body F) : Body F :=
  .op (.waitDma2 (cell7 cc0_scratch9 h) (wqSlot c h.succ) (wqSlot c h.succ)
      ((View.wordExact_bits rfl).reshape _ _) ((View.wordExact_bits rfl).reshape _ _)) fun _ =>
  .op (.waitDma2 (cell7 cc0_scratch11 h) (woSlot c h.succ) (woSlot c h.succ)
      ((View.wordExact_bits rfl).reshape _ _) ((View.wordExact_bits rfl).reshape _ _)) fun _ => k

/-- Send the blocks of hop `h` to the right neighbour. -/
def sends (c : Dev nD) (h : Fin 7) (k : Body F) : Body F :=
  .op (.enqueueDma (wqSlot c h.castSucc) (.remote (Dev.tc (rgtQ c)) (wqSlot c h.castSucc) (.dma (cell7 cc0_scratch8 h)))
      (.dma (cell7 cc0_scratch9 h)) ((View.wordExact_bits rfl).reshape _ _) ((View.wordExact_bits rfl).reshape _ _)
      ⟨⟨rfl, Or.inl rfl⟩, trivial⟩) fun _ =>
  .op (.enqueueDma (woSlot c h.castSucc) (.remote (Dev.tc (rgtO c)) (woSlot c h.castSucc) (.dma (cell7 cc0_scratch10 h)))
      (.dma (cell7 cc0_scratch11 h)) ((View.wordExact_bits rfl).reshape _ _) ((View.wordExact_bits rfl).reshape _ _)
      ⟨⟨rfl, Or.inl rfl⟩, trivial⟩) fun _ => k

/-- Wait until the sends of hop `h` have left. -/
def leaves (c : Dev nD) (h : Fin 7) (k : Body F) : Body F :=
  .op (.waitDma2 (cell7 cc0_scratch8 h) (wqSlot c h.castSucc) (wqSlot c h.castSucc)
      ((View.wordExact_bits rfl).reshape _ _) ((View.wordExact_bits rfl).reshape _ _)) fun _ =>
  .op (.waitDma2 (cell7 cc0_scratch10 h) (woSlot c h.castSucc) (woSlot c h.castSucc)
      ((View.wordExact_bits rfl).reshape _ _) ((View.wordExact_bits rfl).reshape _ _)) fun _ => k

/-! ## The arithmetic of one hop -/

/-- The queries of hop `h`; what follows is given the block of Wo. -/
def query (x : FVec F S1024x768 .f32) (c : Dev nD) (h : Fin 8) (k : FVec F S512x768 .f32 → Body F) : Body F :=
  .op (.load wqAll (Rect.unit (s := S8x768x512) (k0_off6 c (BitVec.ofNat 32 h.val)) S1x768x512.size (k0_off6_inb c h)).toLoadRect
    (View.loadsAt_vmem h_S1x768x512)) fun wq =>
  .op (.load woAll (Rect.unit (s := S8x512x768) (k0_off7 c (BitVec.ofNat 32 h.val)) S1x512x768.size (k0_off7_inb c h)).toLoadRect
    (View.loadsAt_vmem h_S1x512x768)) fun wo =>
  .op (.load qBuf (Rect.unit (s := S1024x512) ![0, 0] S1024x512.size inb_S1024x512_S1024x512_0_0).toLoadRect
    (View.loadsAt_vmem h_S1024x512)) fun _ =>
  .op (.store qBuf (Rect.unit (s := S1024x512) ![0, 0] S1024x512.size inb_S1024x512_S1024x512_0_0) (k0_pay40 x wq) Finset.univ
    (View.stores_vmem_bits_univ h_S1024x512 rfl) (.inl rfl)) fun _ => k (k0_pay39 wo)

/-- Where trip `t` finds its pair of heads in parity `s`; `w` says which of the pair. -/
def kvOff (s : Fin 2) (t : Fin k0_t1_loop.trips) (w : BitVec 32) : Fin 5 → Nat :=
  match s with
  | 0 => k0_off9 t w
  | 1 => k0_off12 t w

theorem kvOff_inb (s : Fin 2) (t : Fin k0_t1_loop.trips) (r : Fin 2) :
    ∀ a, kvOff s t (BitVec.ofNat 32 r.val) a + S1x1x1x512x64.size a ≤ S2x8x2x512x64.size a :=
  match s with
  | 0 => k0_off9_inb t r
  | 1 => k0_off12_inb t r

/-- One trip: two heads of one batch row, from the queries and parity `s` to the contexts. -/
def trip (s : Fin 2) (mask : IVec S512x512 1) (t : Fin k0_t1_loop.trips) (_ : Unit) :
    Prog (TpuEff nD τ sig (Elt F) Λ₀ .tc) Unit :=
  .op (.load qBuf (Rect.unit (s := S1024x512) (k0_off8 t) S512x128.size (k0_off8_inb t)).toLoadRect
    (View.loadsAt_vmem h_S512x128)) fun q =>
  .op (.load kBuf (Rect.unit (s := S2x8x2x512x64) (kvOff s t 0#32) S1x1x1x512x64.size (kvOff_inb s t 0)).toLoadRect
    (View.loadsAt_vmem h_S1x1x1x512x64)) fun k₀ =>
  .op (.load vBuf (Rect.unit (s := S2x8x2x512x64) (kvOff s t 0#32) S1x1x1x512x64.size (kvOff_inb s t 0)).toLoadRect
    (View.loadsAt_vmem h_S1x1x1x512x64)) fun v₀ =>
  .op (.load kBuf (Rect.unit (s := S2x8x2x512x64) (kvOff s t 1#32) S1x1x1x512x64.size (kvOff_inb s t 1)).toLoadRect
    (View.loadsAt_vmem h_S1x1x1x512x64)) fun k₁ =>
  .op (.load vBuf (Rect.unit (s := S2x8x2x512x64) (kvOff s t 1#32) S1x1x1x512x64.size (kvOff_inb s t 1)).toLoadRect
    (View.loadsAt_vmem h_S1x1x1x512x64)) fun v₁ =>
  .op (.load cBuf (Rect.unit (s := S2x512x512) (k0_off10 t) S1x512x128.size (k0_off10_inb t)).toLoadRect
    (View.loadsAt_vmem h_S1x512x128)) fun _ =>
  .op (.store cBuf (Rect.unit (s := S2x512x512) (k0_off10 t) S1x512x128.size (k0_off10_inb t))
    (k0_pay41 (k0_pay5 mask (k0_pay3 v₀) (k0_pay4 q k₀) (Scalar.ofBits .f32 0x3E000000#32)) (k0_pay6 mask q k₁ v₁)) Finset.univ
    (View.stores_vmem_bits_univ h_S1x512x128 rfl) (.inl rfl)) fun _ => .ret ⟨⟩

def trips (s : Fin 2) (mask : IVec S512x512 1) (k : Body F) : Body F :=
  Prog.bind (Scf.Loop.for k0_t1_loop k0_t1_ok ⟨⟩ (trip s mask)) fun _ => k

theorem rowInbC (b : Fin 2) : ∀ a, (![b.val, 0, 0] : Fin 3 → Nat) a + S1x512x512.size a ≤ S2x512x512.size a := by
  revert b; decide

theorem rowInbO (b : Fin 2) : ∀ a, (![b.val, 0, 0] : Fin 3 → Nat) a + S1x512x768.size a ≤ S2x512x768.size a := by
  revert b; decide

/-- Batch row `b` of the result, at the first hop: the contexts times the block of Wo. -/
def outFirst (arg5 : Memref sig .tc .vmem S2x512x768 .f32) (wo : FVec F S512x768 .f32) (b : Fin 2) (k : Body F) : Body F :=
  .op (.load cBuf (Rect.unit (s := S2x512x512) ![b.val, 0, 0] S1x512x512.size (rowInbC b)).toLoadRect
    (View.loadsAt_vmem h_S1x512x512)) fun x =>
  .op (.load arg5 (Rect.unit (s := S2x512x768) ![b.val, 0, 0] S1x512x768.size (rowInbO b)).toLoadRect
    (View.loadsAt_vmem h_S1x512x768)) fun _ =>
  .op (.store arg5 (Rect.unit (s := S2x512x768) ![b.val, 0, 0] S1x512x768.size (rowInbO b)) (k0_pay42 wo x) Finset.univ
    (View.stores_vmem_bits_univ h_S1x512x768 rfl) (.inl rfl)) fun _ => k

/-- Batch row `b` of the result, at a later hop: the product is added to what is there. -/
def outNext (arg5 : Memref sig .tc .vmem S2x512x768 .f32) (wo : FVec F S512x768 .f32) (b : Fin 2) (k : Body F) : Body F :=
  .op (.load cBuf (Rect.unit (s := S2x512x512) ![b.val, 0, 0] S1x512x512.size (rowInbC b)).toLoadRect
    (View.loadsAt_vmem h_S1x512x512)) fun x =>
  .op (.load arg5 (Rect.unit (s := S2x512x768) ![b.val, 0, 0] S1x512x768.size (rowInbO b)).toLoadRect
    (View.loadsAt_vmem h_S1x512x768)) fun o =>
  .op (.load arg5 (Rect.unit (s := S2x512x768) ![b.val, 0, 0] S1x512x768.size (rowInbO b)).toLoadRect
    (View.loadsAt_vmem h_S1x512x768)) fun _ =>
  .op (.store arg5 (Rect.unit (s := S2x512x768) ![b.val, 0, 0] S1x512x768.size (rowInbO b)) (k0_pay47 wo x o) Finset.univ
    (View.stores_vmem_bits_univ h_S1x512x768 rfl) (.inl rfl)) fun _ => k

/-! ## The hops -/

/-- What a hop computes before its output: queries, the wait for K and V, the loop. -/
def compute (x : FVec F S1024x768 .f32) (c : Dev nD) (h : Fin 8) (k : FVec F S512x768 .f32 → Body F) : Body F :=
  query x c h fun wo => waits (par h) heads <| trips (par h) k0_pay38 <| k wo

def hopFirst (arg5 : Memref sig .tc .vmem S2x512x768 .f32) (x : FVec F S1024x768 .f32) (c : Dev nD) (k : Body F) : Body F :=
  starts c 1 heads <| sends c 0 <| compute x c 0 fun wo => outFirst arg5 wo 0 <| outFirst arg5 wo 1 <| leaves c 0 k

/-- Hop `h + 1`, one of the six in the middle. -/
def hopMid (arg5 : Memref sig .tc .vmem S2x512x768 .f32) (x : FVec F S1024x768 .f32) (c : Dev nD) (h : Fin 6) (k : Body F) :
    Body F :=
  starts c h.succ.succ heads <| recvs c h.castSucc <| sends c h.succ <| compute x c h.succ.castSucc fun wo =>
    outNext arg5 wo 0 <| outNext arg5 wo 1 <| leaves c h.succ k

def hopLast (arg5 : Memref sig .tc .vmem S2x512x768 .f32) (x : FVec F S1024x768 .f32) (c : Dev nD) : Body F :=
  recvs c 6 <| compute x c 7 fun wo => outNext arg5 wo 0 <| outNext arg5 wo 1 <| .ret ⟨⟩

/-- The six hops in the middle, as a recursion over their list. -/
def hopsMid (arg5 : Memref sig .tc .vmem S2x512x768 .f32) (x : FVec F S1024x768 .f32) (c : Dev nD) :
    List (Fin 6) → Body F → Body F
  | [], k => k
  | h :: l, k => hopMid arg5 x c h (hopsMid arg5 x c l k)

abbrev mids : List (Fin 6) := [0, 1, 2, 3, 4, 5]

/-- The whole body. -/
def body (arg0 : Memref sig .tc .vmem S2x512x768 .f32) (arg1 : Memref sig .tc .vmem S768x512 .f32)
    (arg4 : Memref sig .tc .vmem S512x768 .f32) (arg5 : Memref sig .tc .vmem S2x512x768 .f32) : Body F :=
  .op .deviceId fun c =>
  starts c 0 heads <| meet c <| own arg1 arg4 c <|
  .op (.load arg0 (Rect.unit (s := S2x512x768) ![0, 0, 0] S2x512x768.size inb_S2x512x768_S2x512x768_0_0_0).toLoadRect
    (View.loadsAt_vmem h_S2x512x768)) fun x =>
  hopFirst arg5 (k0_pay37 x) c <| hopsMid arg5 (k0_pay37 x) c mids <| hopLast arg5 (k0_pay37 x) c

/-- Two programs that take equal steps and go on equally are equal. -/
theorem step_congr {E : Type → Type _} {α β : Type} {e e' : E β} {k k' : β → Prog E α} (he : e = e') (h : ∀ x, k x = k' x) :
    Prog.op e k = Prog.op e' k' := by
  subst he; exact congrArg _ (funext h)

theorem bind_bind {E : Type → Type _} {α β γ : Type} (p : Prog E α) (k₁ : α → Prog E β) (k₂ : β → Prog E γ) :
    Prog.bind (Prog.bind p k₁) k₂ = Prog.bind p (fun x => Prog.bind (k₁ x) k₂) := Prog.bind_assoc p k₁ k₂

section Loops
variable {E : Type → Type _} {α β γ δ : Type} {lb ub st : BitVec 32} {hok : Scf.OK lb ub st} {init : α}
  {b b' : Fin (Scf.trips lb ub st) → α → Prog E α}

/-- The same for a loop that another program follows, at one and at two levels of sequencing. -/
theorem loop_congr₂ {k₁ : α → Prog E β} {k₂ : β → Prog E γ} {k' : α → Prog E γ}
    (hp : b = b') (h : ∀ x, Prog.bind (k₁ x) k₂ = k' x) :
    Prog.bind (Prog.bind (Scf.for lb ub st hok init b) k₁) k₂ = Prog.bind (Scf.for lb ub st hok init b') k' := by
  subst hp; rw [bind_bind]; exact congrArg _ (funext h)

theorem loop_congr₃ {k₁ : α → Prog E β} {k₂ : β → Prog E γ} {k₃ : γ → Prog E δ} {k' : α → Prog E δ}
    (hp : b = b') (h : ∀ x, Prog.bind (Prog.bind (k₁ x) k₂) k₃ = k' x) :
    Prog.bind (Prog.bind (Prog.bind (Scf.for lb ub st hok init b) k₁) k₂) k₃ = Prog.bind (Scf.for lb ub st hok init b') k' := by
  subst hp; rw [bind_bind, bind_bind]; refine congrArg _ (funext fun x => ?_)
  rw [← h, bind_bind]
end Loops

set_option maxRecDepth 65536 in
set_option maxHeartbeats 0 in
/-- The printed body is the hops in order. -/
theorem body_eq (t : Fin cfg0.N) : (bodyAt0 t : Body F) =
    body (win0_0.stage (cfg0.slots t 0)) (win0_1.stage (cfg0.slots t 1)) (win0_2.stage (cfg0.slots t 2))
      (win0_3.stage (cfg0.slots t 3)) := by
  repeat refine step_congr (by chain_rfl) fun _ => ?_
  refine loop_congr₃ (by chain_rfl) fun _ => ?_
  repeat refine step_congr (by chain_rfl) fun _ => ?_
  refine loop_congr₃ (by chain_rfl) fun _ => ?_
  repeat refine step_congr (by chain_rfl) fun _ => ?_
  refine loop_congr₃ (by chain_rfl) fun _ => ?_
  repeat refine step_congr (by chain_rfl) fun _ => ?_
  refine loop_congr₃ (by chain_rfl) fun _ => ?_
  repeat refine step_congr (by chain_rfl) fun _ => ?_
  refine loop_congr₃ (by chain_rfl) fun _ => ?_
  repeat refine step_congr (by chain_rfl) fun _ => ?_
  refine loop_congr₃ (by chain_rfl) fun _ => ?_
  repeat refine step_congr (by chain_rfl) fun _ => ?_
  refine loop_congr₃ (by chain_rfl) fun _ => ?_
  repeat refine step_congr (by chain_rfl) fun _ => ?_
  refine loop_congr₂ (by chain_rfl) fun _ => ?_
  repeat refine step_congr (by chain_rfl) fun _ => ?_
  chain_rfl

end Cert.KernelIdeal.Hops

end
-- ==== Proof.Contents.lean ====
/-
What each buffer holds, as functions of the memory at launch.

`ori c h` is the device whose blocks of Wq and Wo device `c` works on at hop `h`: `h` steps to the left.
The gathered buffers hold block `o` in slot `o` on every device, so their contents `wqF`, `woF` are the same
functions everywhere; `kvF` is what a half of a double buffer holds at hop `h`; `qV`, `ctxF` and `outF` are
the queries, the contexts and the partial result. The lemmas say that the kernel's writes give these contents.
-/
module

public import proofs.«01_k».proof.Proof.Steps
public import proofs.«01_k».proof.Proof.Gen.KernelIdeal.Frame
public import Idealize.ShloMosaic.Lib.Pipeline.Value
public import Idealize.ShloMosaic.Lib.ValueLayout
public import Idealize.ShloMosaic.Lib.Pipeline.ValueKit.Geometry

@[expose] public section

set_option synthInstance.maxSize 4096

noncomputable section

namespace Cert.KernelIdeal.Hops

open Idealize.ShloMosaic Idealize.ShloMosaic.TcCoe Idealize.ShloMosaic.ValueIdx Idealize.SL.Sem Cert.KernelIdeal Cert.KernelIdeal.Gen

variable {F : FTy → Type} [FloatOps F]

/-! ## The ring of devices -/

/-- The device whose blocks device `c` works on at hop `h`. -/
def ori (c : Dev nD) (h : Fin 8) : Fin 8 := ⟨(c.val + 8 - h.val) % 8, Nat.mod_lt _ (by decide)⟩

/-- The right and the left neighbour. -/
def nxt (c : Dev nD) : Dev nD := ⟨(c.val + 1) % 8, Nat.mod_lt _ (by decide)⟩
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_ne (c : Dev nD) : nxt c ≠ c := by revert c; decide
theorem ori_zero (c : Dev nD) : ori c 0 = c := by revert c; decide
theorem ori_nxt (c : Dev nD) (h : Fin 7) : ori (nxt c) h.succ = ori c h.castSucc := by revert c h; decide
theorem ori_bij (c : Dev nD) (h h' : Fin 8) (e : ori c h = ori c h') : h = h' := by revert c h h'; decide

theorem lft_eq (c : Dev nD) : lft c = prv c := Fin.ext (k0_dev1_eq c)
theorem rgt_eq (c : Dev nD) : rgt c = nxt c := Fin.ext (k0_dev2_eq c)
theorem rgtQ_eq (c : Dev nD) : rgtQ c = nxt c := Fin.ext (k0_dev3_eq c)
theorem rgtO_eq (c : Dev nD) : rgtO c = nxt c := Fin.ext (k0_dev4_eq c)

/-! ## Slots -/

theorem slotInbQ (o : Fin 8) : ∀ a, (![o.val, 0, 0] : Fin 3 → Nat) a + S1x768x512.size a ≤ S8x768x512.size a := by
  revert o; decide
theorem slotInbO (o : Fin 8) : ∀ a, (![o.val, 0, 0] : Fin 3 → Nat) a + S1x512x768.size a ≤ S8x512x768.size a := by
  revert o; decide

/-- Slot `o` of the gathered blocks of Wq, and of Wo. -/
abbrev slotQ (o : Fin 8) : Memref sig .tc .vmem S768x512 .f32 :=
  (wqAll.slice (Rect.unit (s := S8x768x512) ![o.val, 0, 0] S1x768x512.size (slotInbQ o)) (fun _ => rfl)).squeeze
    S768x512 squeezes_S1x768x512_S768x512
abbrev slotO (o : Fin 8) : Memref sig .tc .vmem S512x768 .f32 :=
  (woAll.slice (Rect.unit (s := S8x512x768) ![o.val, 0, 0] S1x512x768.size (slotInbO o)) (fun _ => rfl)).squeeze
    S512x768 squeezes_S1x512x768_S512x768

theorem wqSlot_eq (c : Dev nD) (h : Fin 8) : wqSlot c h = slotQ (ori c h) := by
  unfold wqSlot slotQ
  rw [Memref.slice_unit_congr wqAll (k0_off4_eq c h)]; rfl
theorem woSlot_eq (c : Dev nD) (h : Fin 8) : woSlot c h = slotO (ori c h) := by
  unfold woSlot slotO
  rw [Memref.slice_unit_congr woAll (k0_off5_eq c h)]; rfl

theorem mem_slotQ (o : Fin 8) (i : S8x768x512.Idx) : i ∈ (slotQ o).view.set ↔ i 0 = o := by
  refine ((Finset.ext_iff.mp (View.set_reshape ((View.whole cc0_scratch0).slice _) _) i).trans
    (ValueKit.mem_set_slice_whole_iff cc0_scratch0 _ i Rect.mem_set_unit)).trans ⟨fun h => ?_, fun h a => ?_⟩
  · have := h 0; exact Fin.ext (by change o.val ≤ (i 0).val ∧ (i 0).val < o.val + 1 at this; omega)
  · subst h
    match a with
    | ⟨0, _⟩ => exact ⟨Nat.le_refl _, Nat.lt_succ_self _⟩
    | ⟨1, _⟩ => exact ⟨Nat.zero_le _, by have := (i 1).isLt; simpa using this⟩
    | ⟨2, _⟩ => exact ⟨Nat.zero_le _, by have := (i 2).isLt; simpa using this⟩
theorem mem_slotO (o : Fin 8) (i : S8x512x768.Idx) : i ∈ (slotO o).view.set ↔ i 0 = o := by
  refine ((Finset.ext_iff.mp (View.set_reshape ((View.whole cc0_scratch1).slice _) _) i).trans
    (ValueKit.mem_set_slice_whole_iff cc0_scratch1 _ i Rect.mem_set_unit)).trans ⟨fun h => ?_, fun h a => ?_⟩
  · have := h 0; exact Fin.ext (by change o.val ≤ (i 0).val ∧ (i 0).val < o.val + 1 at this; omega)
  · subst h
    match a with
    | ⟨0, _⟩ => exact ⟨Nat.le_refl _, Nat.lt_succ_self _⟩
    | ⟨1, _⟩ => exact ⟨Nat.zero_le _, by have := (i 1).isLt; simpa using this⟩
    | ⟨2, _⟩ => exact ⟨Nat.zero_le _, by have := (i 2).isLt; simpa using this⟩

/-- Writing what a view reads off `g` makes the view's elements those of `g`. -/
theorem write_read_of_mem {κ : Kind} {sp : Space} {s : Shape} {e : EltTy} {Val : EltTy → Type} (v : View sig κ sp s e)
    (f g : v.ty.Contents Val) (i : v.ty.Idx) (hi : i ∈ v.set) : v.write Val f (v.read Val g) Finset.univ i = g i := by
  obtain ⟨x, -, rfl⟩ := Finset.mem_map.mp hi
  rw [View.write_emb_of_mem _ _ (Finset.mem_univ _), View.read_apply, cast_cast]; rfl

/-! ## Contents -/

variable (m : (ℓ : Loc nD τ sig) → Buf (Elt F) ℓ)

/-- The staged blocks of x, Wq and Wo on device `c`. -/
def xStg (c : Dev nD) : S2x512x768.Idx → Elt F .f32 := iblk m c 0 t0_0
def wqStg (c : Dev nD) : S768x512.Idx → Elt F .f32 := iblk m c 1 t0_0
def woStg (c : Dev nD) : S512x768.Idx → Elt F .f32 := iblk m c 2 t0_0

/-- The gathered blocks: slot `o` is device `o`'s. -/
def wqF : S8x768x512.Idx → Elt F .f32 := fun i => k0_pay35 (wqStg m (i 0)) (ix3 (0 : Fin 1) (i 1) (i 2))
def woF : S8x512x768.Idx → Elt F .f32 := fun i => k0_pay36 (woStg m (i 0)) (ix3 (0 : Fin 1) (i 1) (i 2))

/-- The two batch rows of device `c` and the eight heads of hop `h`, out of the array `A`. -/
def kvF (A : S16x512x64x64.Idx → Elt F .f32) (c : Dev nD) (h : Fin 8) : S2x8x2x512x64.Idx → Elt F .f32 := fun i =>
  A (ix4 (⟨2 * c.val + (i 2).val, by have h1 := (i 2).isLt; have h2 := c.isLt; change (i 2).val < 2 at h1; change c.val < 8 at h2; omega⟩ : Fin 16)
    (i 3) (⟨8 * (ori c h).val + (i 1).val, by have h1 := (i 1).isLt; have h2 := (ori c h).isLt; change (i 1).val < 8 at h1; omega⟩ : Fin 64) (i 4))

abbrev kA (c : Dev nD) : S16x512x64x64.Idx → Elt F .f32 := V m c main_arg2
abbrev vA (c : Dev nD) : S16x512x64x64.Idx → Elt F .f32 := V m c main_arg3

theorem updateSlice_of_mem {α : Type} {s u : Shape} (x : s.Idx → α) (upd : u.Idx → α) (off : Fin s.rank → Nat) (h : s.Slices off u)
    (i : s.Idx) (y : u.Idx) (hy : ∀ a : Fin s.rank, (i a).val = off a + (y (a.cast h.1.symm)).val) : updateSlice x upd off h i = upd y := by
  unfold updateSlice
  rw [dif_pos (fun a => ⟨by rw [hy]; omega, by rw [hy]; have := (y (a.cast h.1.symm)).isLt; omega⟩)]
  refine congrArg upd (funext fun a => Fin.ext ?_)
  have := hy (a.cast h.1)
  show (i (a.cast h.1)).val - off (a.cast h.1) = _
  rw [this]
  show _ = (y a).val
  simp

theorem updateSlice_of_not_mem {α : Type} {s u : Shape} (x : s.Idx → α) (upd : u.Idx → α) (off : Fin s.rank → Nat) (h : s.Slices off u)
    (i : s.Idx) (hy : ¬ ∀ a : Fin s.rank, off a ≤ (i a).val ∧ (i a).val < off a + u.size (a.cast h.1.symm)) : updateSlice x upd off h i = x i := by
  unfold updateSlice
  rw [dif_neg hy]

theorem at_off {n : Nat} {f g : Fin n → Nat} (e : f = g) (a : Fin n) {x y : Nat} (h : x = g a + y) : x = f a + y := by
  subst e; exact h

/-- The device's own blocks, put into their slots. -/
theorem own_wq (c : Dev nD) (f : S8x768x512.Idx → Elt F .f32) (i : S8x768x512.Idx) (hi : i ∈ (slotQ c).view.set) :
    (wqAll.access (Rect.unit (s := S8x768x512) (k0_off2 c) S1x768x512.size (k0_off2_inb c)) : View sig .tc _ _ _).write (Elt F) f
      (k0_pay35 (wqStg m c)) Finset.univ i = wqF m i := by
  have h0 := (mem_slotQ c i).mp hi
  refine (congrFun (View.write_whole_slice_unit cc0_scratch0 (k0_off2 c) S1x768x512.size (k0_off2_inb c) f _) i).trans ?_
  refine (updateSlice_of_mem _ _ _ _ i (ix3 (0 : Fin 1) (i 1) (i 2)) fun a => ?_).trans (by unfold wqF; rw [h0]; rfl)
  refine at_off (k0_off2_eq c) a ?_
  match a with
  | ⟨0, _⟩ => exact congrArg Fin.val h0
  | ⟨1, _⟩ => exact (Nat.zero_add _).symm
  | ⟨2, _⟩ => exact (Nat.zero_add _).symm
theorem own_wo (c : Dev nD) (f : S8x512x768.Idx → Elt F .f32) (i : S8x512x768.Idx) (hi : i ∈ (slotO c).view.set) :
    (woAll.access (Rect.unit (s := S8x512x768) (k0_off3 c) S1x512x768.size (k0_off3_inb c)) : View sig .tc _ _ _).write (Elt F) f
      (k0_pay36 (woStg m c)) Finset.univ i = woF m i := by
  have h0 := (mem_slotO c i).mp hi
  refine (congrFun (View.write_whole_slice_unit cc0_scratch1 (k0_off3 c) S1x512x768.size (k0_off3_inb c) f _) i).trans ?_
  refine (updateSlice_of_mem _ _ _ _ i (ix3 (0 : Fin 1) (i 1) (i 2)) fun a => ?_).trans (by unfold woF; rw [h0]; rfl)
  refine at_off (k0_off3_eq c) a ?_
  match a with
  | ⟨0, _⟩ => exact congrArg Fin.val h0
  | ⟨1, _⟩ => exact (Nat.zero_add _).symm
  | ⟨2, _⟩ => exact (Nat.zero_add _).symm

/-! ### The double buffers -/

/-- The half of parity `s`. -/
def half (s : Fin 2) : Finset S2x8x2x512x64.Idx := Finset.univ.filter fun i => (i 0).val = s.val

theorem mem_half (s : Fin 2) (i : S2x8x2x512x64.Idx) : i ∈ half s ↔ i 0 = s :=
  Finset.mem_filter.trans ⟨fun h => Fin.ext h.2, fun h => ⟨Finset.mem_univ _, congrArg Fin.val h⟩⟩

theorem mem_kvDst (b : Ref sig .tc) (s : Fin 2) (n : Fin 8) (i : S2x8x2x512x64.Idx) :
    i ∈ (Rect.unit (s := S2x8x2x512x64) ![s.val, n.val, 0, 0, 0] S1x1x2x512x64.size (kvInb s n)).set ↔ i 0 = s ∧ i 1 = n := by
  refine Rect.mem_set_unit.trans ⟨fun h => ?_, fun h a => ?_⟩
  · have h0 := h 0; have h1 := h 1
    exact ⟨Fin.ext (by change s.val ≤ (i 0).val ∧ (i 0).val < s.val + 1 at h0; omega),
      Fin.ext (by change n.val ≤ (i 1).val ∧ (i 1).val < n.val + 1 at h1; omega)⟩
  · obtain ⟨rfl, rfl⟩ := h
    match a with
    | ⟨0, _⟩ => exact ⟨Nat.le_refl _, Nat.lt_succ_self _⟩
    | ⟨1, _⟩ => exact ⟨Nat.le_refl _, Nat.lt_succ_self _⟩
    | ⟨2, _⟩ => exact ⟨Nat.zero_le _, by have := (i 2).isLt; simpa using this⟩
    | ⟨3, _⟩ => exact ⟨Nat.zero_le _, by have := (i 3).isLt; simpa using this⟩
    | ⟨4, _⟩ => exact ⟨Nat.zero_le _, by have := (i 4).isLt; simpa using this⟩

theorem mem_kDst (s : Fin 2) (n : Fin 8) (i : S2x8x2x512x64.Idx) : i ∈ (kvDst kBuf s n).view.set ↔ i 0 = s ∧ i 1 = n := by
  exact (Finset.ext_iff.mp (View.set_reshape ((View.whole cc0_scratch2).slice _) _) i).trans
    (ValueKit.mem_set_slice_whole_iff cc0_scratch2 _ i (mem_kvDst cc0_scratch2 s n i))
theorem mem_vDst (s : Fin 2) (n : Fin 8) (i : S2x8x2x512x64.Idx) : i ∈ (kvDst vBuf s n).view.set ↔ i 0 = s ∧ i 1 = n := by
  exact (Finset.ext_iff.mp (View.set_reshape ((View.whole cc0_scratch3).slice _) _) i).trans
    (ValueKit.mem_set_slice_whole_iff cc0_scratch3 _ i (mem_kvDst cc0_scratch3 s n i))

theorem half_eq_k (s : Fin 2) : half s = Finset.univ.biUnion fun n : Fin 8 => (kvDst kBuf s n).view.set := by
  ext i; rw [mem_half, Finset.mem_biUnion]
  exact ⟨fun h => ⟨i 1, Finset.mem_univ _, (mem_kDst s _ i).mpr ⟨h, rfl⟩⟩, fun ⟨n, _, h⟩ => ((mem_kDst s n i).mp h).1⟩
theorem half_eq_v (s : Fin 2) : half s = Finset.univ.biUnion fun n : Fin 8 => (kvDst vBuf s n).view.set := by
  ext i; rw [mem_half, Finset.mem_biUnion]
  exact ⟨fun h => ⟨i 1, Finset.mem_univ _, (mem_vDst s _ i).mpr ⟨h, rfl⟩⟩, fun ⟨n, _, h⟩ => ((mem_vDst s n i).mp h).1⟩
theorem disj_k (s : Fin 2) (n n' : Fin 8) (h : n ≠ n') : Disjoint (kvDst kBuf s n).view.set (kvDst kBuf s n').view.set :=
  Finset.disjoint_left.mpr fun i hi hi' => h (((mem_kDst s n i).mp hi).2.symm.trans ((mem_kDst s n' i).mp hi').2)
theorem disj_v (s : Fin 2) (n n' : Fin 8) (h : n ≠ n') : Disjoint (kvDst vBuf s n).view.set (kvDst vBuf s n').view.set :=
  Finset.disjoint_left.mpr fun i hi hi' => h (((mem_vDst s n i).mp hi).2.symm.trans ((mem_vDst s n' i).mp hi').2)
theorem half_disj : Disjoint (half 0) (half 1) :=
  Finset.disjoint_left.mpr fun i hi hi' => (show ¬ (0 : Fin 2) = 1 by decide) (((mem_half 0 i).mp hi).symm.trans ((mem_half 1 i).mp hi'))
theorem half_union : half 0 ∪ half 1 = Finset.univ := by
  ext i; simp only [Finset.mem_union, mem_half, Finset.mem_univ, iff_true]
  have := (i 0).isLt
  change (i 0).val < 2 at this
  rcases (by omega : (i 0).val = 0 ∨ (i 0).val = 1) with h | h
  · exact .inl (Fin.ext h)
  · exact .inr (Fin.ext h)

theorem resh_dst (h : S2x512x64.numel = S1x1x2x512x64.numel) (x : S2x512x64.Idx) :
    Shape.reshapeEquiv h x = ix5 (0 : Fin 1) (0 : Fin 1) (x 0) (x 1) (x 2) :=
  Shape.reshapeEquiv_eq_of_rowMajor h (by
    refine (Shape.rowMajor_val_five _).trans (Eq.trans ?_ (Shape.rowMajor_val_three _).symm)
    show ((((0 * 1 + 0) * 2 + (x 0).val) * 512 + (x 1).val) * 64 + (x 2).val) = ((x 0).val * 512 + (x 1).val) * 64 + (x 2).val
    omega)
theorem resh_src (h : S2x512x64.numel = S2x512x1x64.numel) (x : S2x512x64.Idx) :
    Shape.reshapeEquiv h x = ix4 (x 0) (x 1) (0 : Fin 1) (x 2) :=
  Shape.reshapeEquiv_eq_of_rowMajor h (by
    refine (Shape.rowMajor_val_four _).trans (Eq.trans ?_ (Shape.rowMajor_val_three _).symm)
    show ((((x 0).val * 512 + (x 1).val) * 1 + 0) * 64 + (x 2).val) = ((x 0).val * 512 + (x 1).val) * 64 + (x 2).val
    omega)

/-- The positions of a copy's element in the array and in the double buffer. -/
theorem kvSrc_emb (A : Memref sig .tc .hbm S16x512x64x64 .f32) (c : Dev nD) (h n : Fin 8) (x : S2x512x64.Idx) (a : Fin S16x512x64x64.rank) :
    ((Rect.unit (s := S16x512x64x64) (k0_off1 c (BitVec.ofNat 32 h.val) (BitVec.ofNat 32 n.val)) S2x512x1x64.size (k0_off1_inb c h n)).emb
      (Shape.reshapeEquiv (s := S2x512x1x64) squeezes_S2x512x1x64_S2x512x64.numel_eq x) a).val
      = (![2 * c.val + (x 0).val, (x 1).val, 8 * (ori c h).val + n.val, (x 2).val] : Fin 4 → Nat) a := by
  refine (ValueKit.rect_emb_unit_val _ _ _ _ a).trans (at_off (k0_off1_eq c h n) a ?_).symm
  rw [resh_src]
  match a with
  | ⟨0, _⟩ => rfl
  | ⟨1, _⟩ => exact (Nat.zero_add _).symm
  | ⟨2, _⟩ => exact (Nat.add_zero _).symm
  | ⟨3, _⟩ => exact (Nat.zero_add _).symm

theorem kvDst_emb (s : Fin 2) (n : Fin 8) (x : S2x512x64.Idx) (a : Fin S2x8x2x512x64.rank) :
    ((Rect.unit (s := S2x8x2x512x64) ![s.val, n.val, 0, 0, 0] S1x1x2x512x64.size (kvInb s n)).emb
      (Shape.reshapeEquiv (s := S1x1x2x512x64) squeezes_S1x1x2x512x64_S2x512x64.numel_eq x) a).val
      = (![s.val, n.val, (x 0).val, (x 1).val, (x 2).val] : Fin 5 → Nat) a := by
  refine (ValueKit.rect_emb_unit_val _ _ _ _ a).trans ?_
  rw [resh_dst]
  match a with
  | ⟨0, _⟩ => exact Nat.add_zero _
  | ⟨1, _⟩ => exact Nat.add_zero _
  | ⟨2, _⟩ => exact Nat.zero_add _
  | ⟨3, _⟩ => exact Nat.zero_add _
  | ⟨4, _⟩ => exact Nat.zero_add _

/-- A landed copy of K, and of V. -/
theorem land_k (A : S16x512x64x64.Idx → Elt F .f32) (c : Dev nD) (h n : Fin 8) (f : S2x8x2x512x64.Idx → Elt F .f32)
    (i : S2x8x2x512x64.Idx) (hi : i ∈ (kvDst kBuf (par h) n).view.set) :
    (kvDst kBuf (par h) n).view.write (Elt F) f ((kvSrc kHbm c h n).view.read (Elt F) A) Finset.univ i = kvF A c h i := by
  obtain ⟨x, -, rfl⟩ := Finset.mem_map.mp hi
  refine (View.write_emb_of_mem (v := (kvDst kBuf (par h) n).view) f _ (Finset.mem_univ x)).trans ?_
  show A ((kvSrc kHbm c h n).view.emb x) = kvF A c h ((kvDst kBuf (par h) n).view.emb x)
  unfold kvF
  refine congrArg A (funext fun a => Fin.ext ((kvSrc_emb kHbm c h n x a).trans ?_))
  have e := kvDst_emb (par h) n x
  match a with
  | ⟨0, _⟩ => exact congrArg (2 * c.val + ·) (e 2).symm
  | ⟨1, _⟩ => exact (e 3).symm
  | ⟨2, _⟩ => exact congrArg (8 * (ori c h).val + ·) (e 1).symm
  | ⟨3, _⟩ => exact (e 4).symm
theorem land_v (A : S16x512x64x64.Idx → Elt F .f32) (c : Dev nD) (h n : Fin 8) (f : S2x8x2x512x64.Idx → Elt F .f32)
    (i : S2x8x2x512x64.Idx) (hi : i ∈ (kvDst vBuf (par h) n).view.set) :
    (kvDst vBuf (par h) n).view.write (Elt F) f ((kvSrc vHbm c h n).view.read (Elt F) A) Finset.univ i = kvF A c h i := by
  obtain ⟨x, -, rfl⟩ := Finset.mem_map.mp hi
  refine (View.write_emb_of_mem (v := (kvDst vBuf (par h) n).view) f _ (Finset.mem_univ x)).trans ?_
  show A ((kvSrc vHbm c h n).view.emb x) = kvF A c h ((kvDst vBuf (par h) n).view.emb x)
  unfold kvF
  refine congrArg A (funext fun a => Fin.ext ((kvSrc_emb vHbm c h n x a).trans ?_))
  have e := kvDst_emb (par h) n x
  match a with
  | ⟨0, _⟩ => exact congrArg (2 * c.val + ·) (e 2).symm
  | ⟨1, _⟩ => exact (e 3).symm
  | ⟨2, _⟩ => exact congrArg (8 * (ori c h).val + ·) (e 1).symm
  | ⟨3, _⟩ => exact (e 4).symm

/-! ### One hop -/

/-- The queries of hop `h`. -/
def qV (c : Dev nD) (h : Fin 8) : S1024x512.Idx → Elt F .f32 :=
  k0_pay40 (k0_pay37 (xStg m c))
    (wqAll.view.readAt (Elt F) (Rect.unit (s := S8x768x512) ![(ori c h).val, 0, 0] S1x768x512.size (slotInbQ (ori c h))).toLoadRect (wqF m))
/-- The block of Wo of hop `h`. -/
def woV (c : Dev nD) (h : Fin 8) : FVec F S512x768 .f32 :=
  k0_pay39
    (woAll.view.readAt (Elt F) (Rect.unit (s := S8x512x768) ![(ori c h).val, 0, 0] S1x512x768.size (slotInbO (ori c h))).toLoadRect (woF m))

/-- What trip `t` of hop `h`'s loop stores. -/
def tripV (c : Dev nD) (h : Fin 8) (t : Fin k0_t1_loop.trips) : FVec F S1x512x128 .f32 :=
  let q := qBuf.view.readAt (Elt F) (Rect.unit (s := S1024x512) (k0_off8 t) S512x128.size (k0_off8_inb t)).toLoadRect (qV m c h)
  let kv := fun (A : S16x512x64x64.Idx → Elt F .f32) (B : Memref sig .tc .vmem S2x8x2x512x64 .f32) (f : B.view.ty.Contents (Elt F)) (r : Fin 2) =>
    B.view.readAt (Elt F)
      (Rect.unit (s := S2x8x2x512x64) (kvOff (par h) t (BitVec.ofNat 32 r.val)) S1x1x1x512x64.size (kvOff_inb (par h) t r)).toLoadRect f
  k0_pay41 (k0_pay5 k0_pay38 (k0_pay3 (kv (vA m c) vBuf (kvF (vA m c) c h) 0)) (k0_pay4 q (kv (kA m c) kBuf (kvF (kA m c) c h) 0)) (Scalar.ofBits .f32 0x3E000000#32))
    (k0_pay6 k0_pay38 q (kv (kA m c) kBuf (kvF (kA m c) c h) 1) (kv (vA m c) vBuf (kvF (vA m c) c h) 1))

theorem trips_eq : k0_t1_loop.trips = 8 := by decide +kernel

theorem tripLt (i : S2x512x512.Idx) : 4 * (i 0).val + (i 2).val / 128 < k0_t1_loop.trips := by
  have h1 := (i 0).isLt; have h2 := (i 2).isLt
  change (i 0).val < 2 at h1; change (i 2).val < 512 at h2
  rw [trips_eq]; omega

/-- The contexts of hop `h`: trip `4 b + p` gives the columns from `128 p` of batch row `b`. -/
def ctxF (c : Dev nD) (h : Fin 8) : S2x512x512.Idx → Elt F .f32 := fun i =>
  tripV m c h ⟨4 * (i 0).val + (i 2).val / 128, tripLt i⟩ (ix3 (0 : Fin 1) (i 1) (⟨(i 2).val % 128, Nat.mod_lt _ (by decide)⟩ : Fin 128))

theorem off10_eq : ∀ t : Fin k0_t1_loop.trips, k0_off10 t = ![t.val / 4, 0, 128 * (t.val % 4)] := by decide +kernel

/-- One more trip: the contexts agree on one more rectangle. -/
theorem ctx_step (c : Dev nD) (h : Fin 8) (t : Fin k0_t1_loop.trips) (f : S2x512x512.Idx → Elt F .f32)
    (hf : ∀ i, 4 * (i 0).val + (i 2).val / 128 < t.val → f i = ctxF m c h i) (i : S2x512x512.Idx)
    (hi : 4 * (i 0).val + (i 2).val / 128 < t.val + 1) :
    (cBuf.access (Rect.unit (s := S2x512x512) (k0_off10 t) S1x512x128.size (k0_off10_inb t)) : View sig .tc _ _ _).write (Elt F) f
      (tripV m c h t) Finset.univ i = ctxF m c h i := by
  have h2 := (i 2).isLt
  change (i 2).val < 512 at h2
  refine (congrFun (View.write_whole_slice_unit cc0_scratch5 (k0_off10 t) S1x512x128.size (k0_off10_inb t) f _) i).trans ?_
  by_cases e : 4 * (i 0).val + (i 2).val / 128 = t.val
  · refine (updateSlice_of_mem _ _ _ _ i (ix3 (0 : Fin 1) (i 1) (⟨(i 2).val % 128, Nat.mod_lt _ (by decide)⟩ : Fin 128)) fun a => ?_).trans ?_
    · refine at_off (off10_eq t) a ?_
      match a with
      | ⟨0, _⟩ => show (i 0).val = t.val / 4 + 0; omega
      | ⟨1, _⟩ => exact (Nat.zero_add _).symm
      | ⟨2, _⟩ => show (i 2).val = 128 * (t.val % 4) + (i 2).val % 128; omega
    · unfold ctxF
      have : (⟨4 * (i 0).val + (i 2).val / 128, tripLt i⟩ : Fin k0_t1_loop.trips) = t := Fin.ext e
      rw [this]; rfl
  · refine (updateSlice_of_not_mem _ _ _ _ i fun hm => ?_).trans (hf i (by omega))
    have h0 := hm 0; have h3 := hm 2
    rw [congrFun (off10_eq t) 0] at h0
    rw [congrFun (off10_eq t) 2] at h3
    change t.val / 4 ≤ (i 0).val ∧ (i 0).val < t.val / 4 + 1 at h0
    change 128 * (t.val % 4) ≤ (i 2).val ∧ (i 2).val < 128 * (t.val % 4) + 128 at h3
    omega

/-! ### The result -/

/-- Batch row `b` of the contexts. -/
def ctxRow (c : Dev nD) (h : Fin 8) (b : Fin 2) : Vec F S1x512x512 .f32 :=
  cBuf.view.readAt (Elt F) (Rect.unit (s := S2x512x512) ![b.val, 0, 0] S1x512x512.size (rowInbC b)).toLoadRect (ctxF m c h)

/-- Hop number `n`, as a hop. -/
def hop (n : Nat) : Fin 8 := ⟨n % 8, Nat.mod_lt _ (by decide)⟩
theorem hop_val (h : Fin 8) : hop h.val = h := Fin.ext (Nat.mod_eq_of_lt h.isLt)

/-- Batch row `b` of the partial result after hop `n`. -/
def outRow (c : Dev nD) : Nat → Fin 2 → FVec F S1x512x768 .f32
  | 0, b => k0_pay42 (woV m c (hop 0)) (ctxRow m c (hop 0) b)
  | n + 1, b => k0_pay47 (woV m c (hop (n + 1))) (ctxRow m c (hop (n + 1)) b) (outRow c n b)

/-- Two rows as one array. -/
def rows (w : Fin 2 → FVec F S1x512x768 .f32) : S2x512x768.Idx → Elt F .f32 := fun i => w (i 0) (ix3 (0 : Fin 1) (i 1) (i 2))

def outF (c : Dev nD) (n : Nat) : S2x512x768.Idx → Elt F .f32 := rows (outRow m c n)

abbrev oBuf : Memref sig .tc .vmem S2x512x768 .f32 := Memref.whole cc0_stg3_0
abbrev rectO (b : Fin 2) : Rect S2x512x768 := Rect.unit (s := S2x512x768) ![b.val, 0, 0] S1x512x768.size (rowInbO b)

omit [FloatOps F] in
theorem read_row (f : S2x512x768.Idx → Elt F .f32) (b : Fin 2) (y : S1x512x768.Idx) :
    oBuf.view.readAt (Elt F) (rectO b).toLoadRect f y = f (ix3 b (y 1) (y 2)) := by
  show f ((rectO b).emb y) = _
  refine congrArg f (funext fun a => Fin.ext ((ValueKit.rect_emb_unit_val _ _ _ y a).trans ?_))
  match a with
  | ⟨0, _⟩ => have := (y 0).isLt; change (y 0).val < 1 at this; show b.val + (y 0).val = b.val; omega
  | ⟨1, _⟩ => exact Nat.zero_add _
  | ⟨2, _⟩ => exact Nat.zero_add _

omit [FloatOps F] in
theorem write_row (f : S2x512x768.Idx → Elt F .f32) (b : Fin 2) (w : S1x512x768.Idx → Elt F .f32) (i : S2x512x768.Idx) :
    (oBuf.access (rectO b) : View sig .tc _ _ _).write (Elt F) f w Finset.univ i = if (i 0).val = b.val then w (ix3 (0 : Fin 1) (i 1) (i 2)) else f i := by
  refine (congrFun (View.write_whole_slice_unit cc0_stg3_0 ![b.val, 0, 0] S1x512x768.size (rowInbO b) f w) i).trans ?_
  split
  · next h =>
    refine updateSlice_of_mem _ _ _ _ i (ix3 (0 : Fin 1) (i 1) (i 2)) fun a => ?_
    match a with
    | ⟨0, _⟩ => exact h
    | ⟨1, _⟩ => exact (Nat.zero_add _).symm
    | ⟨2, _⟩ => exact (Nat.zero_add _).symm
  · next h =>
    refine updateSlice_of_not_mem _ _ _ _ i fun hm => h ?_
    have h0 := hm 0
    change b.val ≤ (i 0).val ∧ (i 0).val < b.val + 1 at h0
    omega

omit [FloatOps F] in
/-- Writing both rows leaves the two rows. -/
theorem write_rows (f : S2x512x768.Idx → Elt F .f32) (w : Fin 2 → FVec F S1x512x768 .f32) :
    (oBuf.access (rectO 1) : View sig .tc _ _ _).write (Elt F)
      ((oBuf.access (rectO 0) : View sig .tc _ _ _).write (Elt F) f (w 0) Finset.univ) (w 1) Finset.univ = rows w := by
  funext i
  refine (write_row _ 1 (w 1) i).trans ?_
  have := (i 0).isLt
  change (i 0).val < 2 at this
  unfold rows
  split
  · next h =>
    have h0 : @Eq (Fin 2) (i 0) 1 := Fin.ext h
    exact congrArg (fun b => w b (ix3 (0 : Fin 1) (i 1) (i 2))) h0.symm
  · next h =>
    have h0 : (i 0).val = 0 := by change ¬ (i 0).val = 1 at h; omega
    have h1 : @Eq (Fin 2) (i 0) 0 := Fin.ext h0
    refine (write_row f 0 (w 0) i).trans ((if_pos h0).trans ?_)
    exact congrArg (fun b => w b (ix3 (0 : Fin 1) (i 1) (i 2))) h1.symm

omit [FloatOps F] in
theorem ix3_row (y : S1x512x768.Idx) : (ix3 (0 : Fin 1) (y 1) (y 2) : S1x512x768.Idx) = y := by
  funext a
  match a with
  | ⟨0, _⟩ => have := (y 0).isLt; change (y 0).val < 1 at this; exact Fin.ext (by show 0 = (y 0).val; omega)
  | ⟨1, _⟩ => rfl
  | ⟨2, _⟩ => rfl

omit [FloatOps F] in
/-- Reading a row: of two rows, and beside a row just written. -/
theorem read_rows (w : Fin 2 → FVec F S1x512x768 .f32) (b : Fin 2) : oBuf.view.readAt (Elt F) (rectO b).toLoadRect (rows w) = w b := by
  funext y
  refine (read_row (rows w) b y).trans ?_
  exact congrArg (w b) (ix3_row y)
omit [FloatOps F] in
theorem read_row_write (f : S2x512x768.Idx → Elt F .f32) (w : S1x512x768.Idx → Elt F .f32) :
    oBuf.view.readAt (Elt F) (rectO 1).toLoadRect ((oBuf.access (rectO 0) : View sig .tc _ _ _).write (Elt F) f w Finset.univ)
      = oBuf.view.readAt (Elt F) (rectO 1).toLoadRect f := by
  funext y
  refine (read_row _ 1 y).trans ((write_row f 0 w _).trans ?_)
  rw [if_neg (by show ¬ (1 : Nat) = 0; decide)]
  exact (read_row f 1 y).symm

end Cert.KernelIdeal.Hops

end
-- ==== Proof.Protocol.lean ====
/-
The ring's protocol.

For each semaphore of device `c` (its neighbours are `prv c` on the left and `nxt c` on the right):

* the barrier: `c` waits for 2. `nxt c` signals 1 first (duty `true`) and hands over the seven slots of each of
  its gathered buffers that `c`'s copies will land in, whatever they hold; `prv c` signals 1 (duty `false`) and
  hands over nothing.
* receive cell `h` for Wq, and for Wo: `c` waits for one block. `prv c`'s copy at hop `h` lands there and hands
  over slot `ori c (h+1)` of `c`'s buffer, holding the block of device `ori c (h+1)`.
* send cell `h` for Wq, and for Wo: `c` waits for one block. Its own copy at hop `h` credits it and hands back
  the half share of slot `ori c h` that the copy read from; with the other half `c` keeps reading the slot.

Every cell has one round. A device owes its right neighbour the fourteen receive credits and each neighbour one
barrier unit. The levels say why every wait ends: a receive cell of hop `h` lies at `h + 2`, the barrier at 1,
every other cell at 0, and a device waits for a cell only while all it owes lies above.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Batch
public import Idealize.ShloMosaic.Lib.Ring

@[expose] public section

set_option synthInstance.maxSize 4096

noncomputable section

namespace Cert.KernelIdeal.Hops

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, the ring's (duties `Bool`), the counters of the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb (U := UU)

instance ER_landsIn : (ER (F := F)).LandsIn (upEmb : UEmb _ 𝕄) := by unfold ER; infer_instance

/-- No loop of these programs runs under a variant. -/
abbrev 𝒱₀ : Variants := Variants.none

variable (m : (ℓ : Loc nD τ sig) → Buf (Elt F) ℓ)

/-! ## The cells -/

/-- The four families of cells of the ring: send Wq, receive Wq, send Wo, receive Wo. -/
abbrev rc (j : Fin 4) (h : Fin 7) : DmaSem sig :=
  match j with
  | 0 => cell7 cc0_scratch8 h
  | 1 => cell7 cc0_scratch9 h
  | 2 => cell7 cc0_scratch10 h
  | 3 => cell7 cc0_scratch11 h

/-- The ring's cells of one device: the barrier and the four families. -/
abbrev Cell : Type := Option (Fin 4 × Fin 7)
def csem : Cell → SemLoc sig
  | none => .reg barSem
  | some (j, h) => .dma (rc j h)

theorem csem_inj : Function.Injective csem := by
  have h : ∀ a b : Cell, csem a = csem b → a = b := by decide +kernel
  exact fun a b => h a b

abbrev kcell (ck : Dev nD × Cell) : GSem nD τ sig := ((ck.1 : Thread nD τ), csem ck.2)
abbrev barCell (c : Dev nD) : GSem nD τ sig := ((c : Thread nD τ), .reg barSem)
abbrev rcCell (c : Dev nD) (j : Fin 4) (h : Fin 7) : GSem nD τ sig := ((c : Thread nD τ), .dma (rc j h))

/-- Which of the ring's cells a semaphore is. -/
def cellAt (g : GSem nD τ sig) : Option Cell :=
  if g.1.2 = .tc then (if h : ∃ k, csem k = g.2 then some h.choose else none) else none

theorem cellAt_csem (c : Dev nD) (k : Cell) : cellAt ((c : Thread nD τ), csem k) = some k := by
  have h : ∃ k', csem k' = csem k := ⟨k, rfl⟩
  unfold cellAt
  rw [if_pos rfl, dif_pos h]
  exact congrArg some (csem_inj h.choose_spec)
theorem cellAt_bar (c : Dev nD) : cellAt (barCell c) = some none := cellAt_csem c none
theorem cellAt_rc (c : Dev nD) (j : Fin 4) (h : Fin 7) : cellAt (rcCell c j h) = some (some (j, h)) := cellAt_csem c (some (j, h))
theorem cellAt_none (c : Dev nD) (sm : SemLoc sig) (h : ∀ k, csem k ≠ sm) : cellAt ((c : Thread nD τ), sm) = none := by
  unfold cellAt
  rw [if_pos rfl, dif_neg fun ⟨k, e⟩ => h k e]

/-! ## Slots -/

/-- Slot `o` of device `c`'s gathered blocks of Wq at share `q`, holding `f`; the same for Wo. -/
def qPts (c : Dev nD) (o : Fin 8) (q : PosShare TreeShare) (f : Buf (Elt F) ((slotQ o).view.loc (c : Thread nD τ))) : sProp 𝕄 :=
  (slotQ o).view.loc (c : Thread nD τ) ↦[(slotQ o).view.set]{q} f
def oPts (c : Dev nD) (o : Fin 8) (q : PosShare TreeShare) (f : Buf (Elt F) ((slotO o).view.loc (c : Thread nD τ))) : sProp 𝕄 :=
  (slotO o).view.loc (c : Thread nD τ) ↦[(slotO o).view.set]{q} f

omit [FloatOps F] in
instance qPts_storable (c : Dev nD) (o : Fin 8) (q) (f) : BI.Storable (upEmb : UEmb _ 𝕄) (qPts (F := F) c o q f) := by unfold qPts; infer_instance
omit [FloatOps F] in
instance oPts_storable (c : Dev nD) (o : Fin 8) (q) (f) : BI.Storable (upEmb : UEmb _ 𝕄) (oPts (F := F) c o q f) := by unfold oPts; infer_instance

/-- The credit of one block. -/
def NQ : ℕ := (slotQ 0).view.dmaCredit
def NO : ℕ := (slotO 0).view.dmaCredit
theorem NQ_pos : 0 < NQ := View.dmaCredit_pos _ (by decide)
theorem NO_pos : 0 < NO := View.dmaCredit_pos _ (by decide)
theorem creditQ (o : Fin 8) : (slotQ o).view.dmaCredit = NQ := rfl
theorem creditO (o : Fin 8) : (slotO o).view.dmaCredit = NO := rfl

/-! ## The schedule -/

/-- What the right neighbour's signal hands `c`: the slots of that neighbour which `c`'s copies land in. -/
def barPay (c : Dev nD) : sProp 𝕄 :=
  bigSep Finset.univ fun h : Fin 7 =>
    iprop((∃ f, qPts (nxt c) (ori c h.castSucc) fullShare f) ∗ (∃ f, oPts (nxt c) (ori c h.castSucc) fullShare f))

/-- What a landing on the cell `(j, h)` of `c` hands over. -/
def xferPay (c : Dev nD) (j : Fin 4) (h : Fin 7) : sProp 𝕄 :=
  match j with
  | 0 => qPts c (ori c h.castSucc) fullShare.left (wqF m)
  | 1 => qPts c (ori c h.succ) fullShare (wqF m)
  | 2 => oPts c (ori c h.castSucc) fullShare.left (woF m)
  | 3 => oPts c (ori c h.succ) fullShare (woF m)

def dutiesOf : Option Cell → Finset Bool
  | some none => Finset.univ
  | some (some _) => {false}
  | none => ∅
/-- The credit of a block of family `j`. -/
def creditOf (j : Fin 4) : ℕ := if j.val < 2 then NQ else NO
def amountAt : Option Cell → ℕ
  | some (some (j, _)) => creditOf j
  | _ => 1
def payAt (c : Dev nD) (d : Bool) : Option Cell → sProp 𝕄
  | some none => if d then barPay c else iprop(emp)
  | some (some (j, h)) => xferPay m c j h
  | none => iprop(emp)

theorem creditOf_pos (j : Fin 4) : 0 < creditOf j := by
  unfold creditOf; split
  · exact NQ_pos
  · exact NO_pos

/-- The ring's schedule: one round for each cell. -/
def ringRd : Rounds.Schedule (GSem nD τ sig) Bool 𝕄 where
  duties g r := if r = 0 then dutiesOf (cellAt g) else ∅
  unitless _ := False
  amount g _ _ := amountAt (cellAt g)
  payload g _ d := payAt m g.1.1 d (cellAt g)
  amount_pos g _ _ _ := by
    rcases cellAt g with _ | _ | ⟨j, h⟩
    · exact Nat.one_pos
    · exact Nat.one_pos
    · exact creditOf_pos j

instance barPay_storable (c : Dev nD) : BI.Storable (upEmb : UEmb _ 𝕄) (barPay (F := F) c) := by unfold barPay; infer_instance
instance xferPay_storable (c : Dev nD) (j : Fin 4) (h : Fin 7) : BI.Storable (upEmb : UEmb _ 𝕄) (xferPay m c j h) := by
  unfold xferPay; split <;> infer_instance
instance ringRd_payload_storable (g : GSem nD τ sig) (r : ℕ) (d : Bool) :
    BI.Storable (upEmb : UEmb _ 𝕄) ((ringRd m).payload g r d) := by
  show BI.Storable upEmb (payAt m g.1.1 d (cellAt g))
  rcases cellAt g with _ | _ | ⟨j, h⟩
  · show BI.Storable upEmb iprop(emp); infer_instance
  · show BI.Storable upEmb (if d then barPay g.1.1 else iprop(emp)); split <;> infer_instance
  · show BI.Storable upEmb (xferPay m g.1.1 j h); infer_instance

section Sched
variable (c : Dev nD) (j : Fin 4) (h : Fin 7)

theorem duties_bar : (ringRd m).duties (barCell c) 0 = Finset.univ := by
  show (if (0 : ℕ) = 0 then dutiesOf (cellAt (barCell c)) else ∅) = _
  rw [if_pos rfl, cellAt_bar]; rfl
theorem duties_rc : (ringRd m).duties (rcCell c j h) 0 = {false} := by
  show (if (0 : ℕ) = 0 then dutiesOf (cellAt (rcCell c j h)) else ∅) = _
  rw [if_pos rfl, cellAt_rc]; rfl
theorem duties_later (g : GSem nD τ sig) : ∀ r, 1 ≤ r → (ringRd m).duties g r = ∅ :=
  fun r hr => if_neg (by omega)

theorem amount_bar (d : Bool) : (ringRd m).amount (barCell c) 0 d = 1 := by
  show amountAt (cellAt (barCell c)) = 1; rw [cellAt_bar]; rfl
theorem amount_rc (d : Bool) : (ringRd m).amount (rcCell c j h) 0 d = creditOf j := by
  show amountAt (cellAt (rcCell c j h)) = _; rw [cellAt_rc]; rfl

theorem expect_bar : (ringRd m).expect (barCell c) 0 = 2 := by
  unfold Schedule.expect Schedule.amountOf
  rw [duties_bar, Finset.sum_congr rfl fun d _ => amount_bar m c d, Finset.sum_const, Finset.card_univ, Fintype.card_bool, smul_eq_mul]
theorem expect_rc : (ringRd m).expect (rcCell c j h) 0 = creditOf j := by
  unfold Schedule.expect Schedule.amountOf; rw [duties_rc, Finset.sum_singleton, amount_rc]

theorem payload_bar_true : (ringRd m).payload (barCell c) 0 true = barPay c := by
  show payAt m c true (cellAt (barCell c)) = _; rw [cellAt_bar]; rfl
theorem payload_bar_false : (ringRd m).payload (barCell c) 0 false = iprop(emp) := by
  show payAt m c false (cellAt (barCell c)) = _; rw [cellAt_bar]; rfl
theorem payload_rc (d : Bool) : (ringRd m).payload (rcCell c j h) 0 d = xferPay m c j h := by
  show payAt m c d (cellAt (rcCell c j h)) = _; rw [cellAt_rc]; rfl

theorem rest_bar : bigSep ((ringRd m).duties (barCell c) 0 \ ∅) (fun d => (ringRd m).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_rc : bigSep ((ringRd m).duties (rcCell c j h) 0 \ ∅) (fun d => (ringRd m).payload (rcCell c j h) 0 d) = xferPay m c j h := by
  rw [Finset.sdiff_empty, duties_rc, bigSep_singleton, payload_rc]

end Sched

/-! ## What a device owes; the levels -/

/-- The receive credits of the right neighbour for the hops of the list; the next one to be paid is the last summand. -/
def oweFrom (c : Dev nD) : List (Fin 7) → CellTallies nD τ sig Unit
  | [] => 0
  | h :: l => (oweFrom c l + tallyAt (rcCell (nxt c) 3 h) () NO) + tallyAt (rcCell (nxt c) 1 h) () NQ

abbrev hops : List (Fin 7) := [0, 1, 2, 3, 4, 5, 6]

def O₁ (c : Dev nD) : CellTallies nD τ sig Unit := oweFrom c hops + tallyAt (barCell (nxt c)) () 1
def O₀ (c : Dev nD) : CellTallies nD τ sig Unit := O₁ c + tallyAt (barCell (prv c)) () 1

def L (g : GSem nD τ sig) : Finset Unit := if g.1.2 = .tc then {()} else ∅
def lvAt : Option Cell → ℕ
  | some none => 1
  | some (some (j, h)) => if j.val % 2 = 1 then h.val + 2 else 0
  | none => 0
def lv (g : GSem nD τ sig) (_ : Unit) : ℕ := lvAt (cellAt g)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by show lvAt (cellAt _) = 1; rw [cellAt_bar]; rfl
theorem lv_rc (c : Dev nD) (j : Fin 4) (h : Fin 7) : lv (rcCell c j h) () = if j.val % 2 = 1 then h.val + 2 else 0 := by
  show lvAt (cellAt _) = _; rw [cellAt_rc]; rfl
theorem lv_none (c : Dev nD) (sm : SemLoc sig) (h : ∀ k, csem k ≠ sm) : lv ((c : Thread nD τ), sm) () = 0 := by
  show lvAt (cellAt _) = _; rw [cellAt_none c sm h]; rfl

theorem add_pos_cases {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h
theorem tallyAt_pos {g₀ g : GSem nD τ sig} {u : Unit} {n : ℕ} (h : 0 < tallyAt g₀ () n g u) : g = g₀ := by
  rw [tallyAt_apply] at h
  by_contra hn
  rw [if_neg fun h' => hn h'.1] at h
  exact Nat.lt_irrefl 0 h

theorem oweFrom_pos {c : Dev nD} {g : GSem nD τ sig} {u : Unit} : ∀ l : List (Fin 7), 0 < oweFrom c l g u →
    ∃ h ∈ l, g = rcCell (nxt c) 1 h ∨ g = rcCell (nxt c) 3 h
  | [], h => absurd h (Nat.lt_irrefl 0)
  | a :: l, h => by
    rcases add_pos_cases h with h | h
    · rcases add_pos_cases h with h | h
      · obtain ⟨b, hb, e⟩ := oweFrom_pos l h
        exact ⟨b, List.mem_cons_of_mem _ hb, e⟩
      · exact ⟨a, List.mem_cons_self, .inr (tallyAt_pos h)⟩
    · exact ⟨a, List.mem_cons_self, .inl (tallyAt_pos h)⟩

/-- All that `c` may owe lies on a tensor core's cells, above the level `cut` if it owes only the hops of `l`. -/
theorem mayWait_from (c : Dev nD) (sm : SemLoc sig) (l : List (Fin 7)) (cut : ℕ) (h1 : lv ((c : Thread nD τ), sm) () ≤ cut)
    (h2 : ∀ h ∈ l, cut < h.val + 2) :
    (levAts L lv : sProp 𝕄) ⊢ MayWait (c : Thread nD τ) sm () (oweFrom c l) :=
  MayOwe.of_cut (L := L) (lev := lv) cut (fun p hp => by rw [Finset.mem_singleton.mp hp, L_tc]; exact Finset.mem_singleton_self _)
    (fun g u hg => by
      obtain ⟨h, -, rfl | rfl⟩ := oweFrom_pos l hg <;> exact Finset.mem_singleton_self _)
    (fun p hp => by rw [Finset.mem_singleton.mp hp]; exact h1)
    (fun g u hg => by
      obtain ⟨h, hh, rfl | rfl⟩ := oweFrom_pos l hg <;> (rw [lv_rc]; exact h2 h hh))

/-- At launch `c` may wait for any cell of level 0. -/
theorem mayWait_start (c : Dev nD) (sm : SemLoc sig) (h1 : lv ((c : Thread nD τ), sm) () = 0) :
    (levAts L lv : sProp 𝕄) ⊢ MayWait (c : Thread nD τ) sm () (O₀ c) := by
  have hp : ∀ {g : GSem nD τ sig} {u : Unit}, 0 < O₀ c g u → L g = {()} ∧ 0 < lv g () := by
    intro g u hg
    rcases add_pos_cases hg with hg | hg
    · rcases add_pos_cases hg with hg | hg
      · obtain ⟨h, -, rfl | rfl⟩ := oweFrom_pos _ hg <;> exact ⟨L_tc _ _, by rw [lv_rc]; exact Nat.succ_pos _⟩
      · rw [tallyAt_pos hg]; exact ⟨L_tc _ _, by rw [lv_bar]; exact Nat.one_pos⟩
    · rw [tallyAt_pos hg]; exact ⟨L_tc _ _, by rw [lv_bar]; exact Nat.one_pos⟩
  exact MayOwe.of_cut (L := L) (lev := lv) 0 (fun p hp => by rw [Finset.mem_singleton.mp hp, L_tc]; exact Finset.mem_singleton_self _)
    (fun g u hg => by rw [(hp hg).1]; exact Finset.mem_singleton_self _)
    (fun p hp => by rw [Finset.mem_singleton.mp hp]; exact le_of_eq h1)
    (fun g u hg => (hp hg).2)

/-! ## What a device starts the ring with -/

/-- The invariants of all the ring's cells, and that each has reached its round: any device may look one up. -/
def records (K : Dev nD × Cell → ℕ) : sProp 𝕄 :=
  iprop((bigSep Finset.univ fun ck : Dev nD × Cell => cellInv ER (ringRd m) (K ck) (kcell ck))
    ∗ (bigSep Finset.univ fun ck : Dev nD × Cell => reached ER (kcell ck) 0))

instance records_persistent (K : Dev nD × Cell → ℕ) : BI.Persistent (records m K) := by unfold records; infer_instance

theorem inv_at (K : Dev nD × Cell → ℕ) (ck : Dev nD × Cell) : records m K ⊢ cellInv ER (ringRd m) (K ck) (kcell ck) :=
  sep_elim_left.trans (bigSep_elim (Finset.mem_univ ck))
theorem reached_at (K : Dev nD × Cell → ℕ) (ck : Dev nD × Cell) : records m K ⊢ (reached ER (kcell ck) 0 : sProp 𝕄) :=
  sep_elim_right.trans (bigSep_elim (Finset.mem_univ ck))

/-- For hop `h`: the positions of the two send cells and the tokens `c` pays with. -/
def sendStock (c : Dev nD) (h : Fin 7) : sProp 𝕄 :=
  iprop(atPos ER (rcCell c 0 h) 0 ∅ 0 ∗ atPos ER (rcCell c 2 h) 0 ∅ 0
    ∗ dutyTok ER (rcCell c 0 h) 0 false ∗ dutyTok ER (rcCell (nxt c) 1 h) 0 false
    ∗ dutyTok ER (rcCell c 2 h) 0 false ∗ dutyTok ER (rcCell (nxt c) 3 h) 0 false)
/-- For hop `h`: the slots of the right neighbour that its copies land in. -/
def landStock (c : Dev nD) (h : Fin 7) : sProp 𝕄 :=
  iprop((∃ f, qPts (nxt c) (ori c h.castSucc) fullShare f) ∗ (∃ f, oPts (nxt c) (ori c h.castSucc) fullShare f))
/-- For hop `h`: the positions of the two receive cells and the credit to wait with. -/
def recvStock (c : Dev nD) (h : Fin 7) : sProp 𝕄 :=
  iprop(atPos ER (rcCell c 1 h) 0 ∅ 0 ∗ atPos ER (rcCell c 3 h) 0 ∅ 0
    ∗ cred (tallyAt (rcCell c 1 h) () NQ) ∗ cred (tallyAt (rcCell c 3 h) () NO))
/-- For the barrier: the position, the two tokens, the credit. -/
def barStock (c : Dev nD) : sProp 𝕄 :=
  iprop(atPos ER (barCell c) 0 ∅ 0 ∗ dutyTok ER (barCell (nxt c)) 0 false ∗ dutyTok ER (barCell (prv c)) 0 true
    ∗ cred (tallyAt (barCell c) () 2))
/-- For hop `h`, its copies under way: the positions of the two send cells and the credit to wait with. -/
def sentStock (c : Dev nD) (h : Fin 7) : sProp 𝕄 :=
  iprop(atPos ER (rcCell c 0 h) 0 ∅ 0 ∗ atPos ER (rcCell c 2 h) 0 ∅ 0
    ∗ cred (tallyAt (rcCell c 0 h) () NQ) ∗ cred (tallyAt (rcCell c 2 h) () NO))
/-- A hop's two send cells closed, a hop's two receive cells closed. -/
def sendDone (c : Dev nD) (h : Fin 7) : sProp 𝕄 :=
  iprop(semVal (rcCell c 0 h) 0 ∗ semVal (rcCell c 2 h) 0)
def recvDone (c : Dev nD) (h : Fin 7) : sProp 𝕄 :=
  iprop(semVal (rcCell c 1 h) 0 ∗ semVal (rcCell c 3 h) 0)

/-- What `c` owes, whatever it has waited for. -/
def owesE (c : Dev nD) (O : CellTallies nD τ sig Unit) : sProp 𝕄 := iprop(∃ W, owes (c : Thread nD τ) O W)

/-- Running `p` on device `c` and ending in `Q`. -/
abbrev run (c : Dev nD) (p : Body F) (Q : PUnit → sProp 𝕄) : sProp 𝕄 :=
  wp frame (wpE (defs₀ (F := F)) 𝒱₀ (c : Thread nD τ) none) Set.univ p Q

end Cert.KernelIdeal.Hops

end
-- ==== Proof.Local.lean ====
/-
The local copies of K and V into the double buffers.

A hop's eight copies of K go to one semaphore, its eight of V to another: two batches. Issued, they are
`kvBusy`; all waited for, the half of the double buffer holds the hop's heads (`kvFull`), and once those have
been used it is `kvIdle` again.
-/
module

public import proofs.«01_k».proof.Proof.Protocol

@[expose] public section

set_option synthInstance.maxSize 4096

noncomputable section

namespace Cert.KernelIdeal.Hops

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The credit of one head. -/
def NK : ℕ := (kvDst kBuf 0 0).view.dmaCredit
def NV : ℕ := (kvDst vBuf 0 0).view.dmaCredit
theorem NK_pos : 0 < NK := View.dmaCredit_pos _ (by decide)
theorem NV_pos : 0 < NV := View.dmaCredit_pos _ (by decide)

abbrev kSem (s : Fin 2) : DmaSem sig := cell2 cc0_scratch6 s
abbrev vSem (s : Fin 2) : DmaSem sig := cell2 cc0_scratch7 s

/-- Elements of the double buffers at contents `f`. -/
def kPts (S : Finset S2x8x2x512x64.Idx) (f : S2x8x2x512x64.Idx → Elt F .f32) : sProp 𝕄 :=
  (c : Thread nD τ).loc cc0_scratch2 ↦[S]{fullShare} f
def vPts (S : Finset S2x8x2x512x64.Idx) (f : S2x8x2x512x64.Idx → Elt F .f32) : sProp 𝕄 :=
  (c : Thread nD τ).loc cc0_scratch3 ↦[S]{fullShare} f

omit [FloatOps F] in
instance kPts_storable (S) (f) : BI.Storable (upEmb : UEmb _ 𝕄) (kPts (F := F) c S f) := by unfold kPts; infer_instance
omit [FloatOps F] in
instance vPts_storable (S) (f) : BI.Storable (upEmb : UEmb _ 𝕄) (vPts (F := F) c S f) := by unfold vPts; infer_instance

/-- What the landing of head `n` gives. -/
def kLand (h : Fin 8) (n : Fin 8) : sProp 𝕄 := kPts c (kvDst kBuf (par h) n).view.set (kvF (kA m c) c h)
def vLand (h : Fin 8) (n : Fin 8) : sProp 𝕄 := vPts c (kvDst vBuf (par h) n).view.set (kvF (vA m c) c h)

instance kLand_storable (h n : Fin 8) : BI.Storable (upEmb : UEmb _ 𝕄) (kLand m c h n) := by unfold kLand; infer_instance
instance vLand_storable (h n : Fin 8) : BI.Storable (upEmb : UEmb _ 𝕄) (vLand m c h n) := by unfold vLand; infer_instance

/-- The two batches, `i` copies issued and `u`, `u'` units of them waited for. -/
abbrev kBatch (h : Fin 8) (i u : ℕ) : sProp 𝕄 := Transfers.Batch EC (c : Thread nD τ) (.dma (kSem (par h))) () NK (kLand m c h) i u
abbrev vBatch (h : Fin 8) (i u : ℕ) : sProp 𝕄 := Transfers.Batch EC (c : Thread nD τ) (.dma (vSem (par h))) () NV (vLand m c h) i u

def kvBusy (h : Fin 8) : sProp 𝕄 := iprop(kBatch m c h 8 0 ∗ vBatch m c h 8 0)
/-- The two counters of a parity at zero. -/
def kvZero (s : Fin 2) : sProp 𝕄 := iprop(semVal ((c : Thread nD τ), .dma (kSem s)) 0 ∗ semVal ((c : Thread nD τ), .dma (vSem s)) 0)
def kvIdle (s : Fin 2) : sProp 𝕄 := iprop((∃ f, kPts c (half s) f) ∗ (∃ f, vPts c (half s) f) ∗ kvZero c s)
def kvFull (h : Fin 8) : sProp 𝕄 :=
  iprop(kPts c (half (par h)) (kvF (kA m c) c h) ∗ vPts c (half (par h)) (kvF (vA m c) c h) ∗ kvZero c (par h))

theorem kvFull_idle (h : Fin 8) : kvFull m c h ⊢ (kvIdle c (par h) : sProp 𝕄) := by
  unfold kvFull kvIdle
  iintro ⟨Hk, Hv, Hz⟩
  isplitl [Hk]; · iexists _; iexact Hk
  isplitl [Hv]; · iexists _; iexact Hv
  iexact Hz

/-- A share of the arrays K and V. -/
def kvArr : sProp 𝕄 :=
  iprop((∃ q : PosShare TreeShare, (c : Thread nD τ).loc main_arg2 ↦{q} kA m c) ∗ (∃ q : PosShare TreeShare, (c : Thread nD τ).loc main_arg3 ↦{q} vA m c))

/-- A half of a double buffer is its eight heads. -/
theorem kPts_heads (s : Fin 2) (f) : (kPts c (half s) f : sProp 𝕄) = bigSep Finset.univ fun n : Fin 8 => kPts c (kvDst kBuf s n).view.set f := by
  unfold kPts
  rw [half_eq_k]
  exact pointsTo_biUnion _ _ fun n _ n' _ h => disj_k s n n' h
theorem vPts_heads (s : Fin 2) (f) : (vPts c (half s) f : sProp 𝕄) = bigSep Finset.univ fun n : Fin 8 => vPts c (kvDst vBuf s n).view.set f := by
  unfold vPts
  rw [half_eq_v]
  exact pointsTo_biUnion _ _ fun n _ n' _ h => disj_v s n n' h

theorem kLand_heads (h : Fin 8) : bigSep Finset.univ (kLand m c h) ⊢ kPts c (half (par h)) (kvF (kA m c) c h) :=
  Entails.of_eq (kPts_heads c (par h) (kvF (kA m c) c h)).symm
theorem vLand_heads (h : Fin 8) : bigSep Finset.univ (vLand m c h) ⊢ vPts c (half (par h)) (kvF (vA m c) c h) :=
  Entails.of_eq (vPts_heads c (par h) (kvF (vA m c) c h)).symm

theorem bigSep_heads (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL heads (by decide) (by decide)]
  simp only [bigSepL_cons_cons, bigSepL_singleton]
  rfl

/-- The copies of head `n` are issued. -/
theorem startOne_wp (h n : Fin 8) (f g : S2x8x2x512x64.Idx → Elt F .f32) {k : Body F} {Q : PUnit → sProp 𝕄} :
    iprop(kvArr m c ∗ kPts c (kvDst kBuf (par h) n).view.set f ∗ vPts c (kvDst vBuf (par h) n).view.set g
        ∗ kBatch m c h n.val 0 ∗ vBatch m c h n.val 0)
      ⊢ iprop(((kvArr m c ∗ kBatch m c h (n.val + 1) 0 ∗ vBatch m c h (n.val + 1) 0) -∗ run c k Q) -∗ run c (startOne c h n k) Q) := by
  unfold kvArr startOne
  iintro ⟨⟨⟨%q, HK⟩, ⟨%q', HV⟩⟩, Hk, Hv, HB, HB'⟩ Hc
  ihave HK2 := (pointsTo_share (PosShare.mem_left_op_right q)).1 $$ HK
  icases HK2 with ⟨HKl, HKr⟩
  ihave HV2 := (pointsTo_share (PosShare.mem_left_op_right q')).1 $$ HV
  icases HV2 with ⟨HVl, HVr⟩
  ihave HKl := (pointsTo_split_subset (Finset.subset_univ (kvSrc kHbm c h n).view.set)).1 $$ HKl
  icases HKl with ⟨HKs, -⟩
  ihave HVl := (pointsTo_split_subset (Finset.subset_univ (kvSrc vHbm c h n).view.set)).1 $$ HVl
  icases HVl with ⟨HVs, -⟩
  iapply (Transfers.wp_dmaBatch EC 𝒱₀ (c : Thread nD τ) none (src := kvSrc kHbm c h n) (dst := kvDst kBuf (par h) n)
      (via := .same) (fs := kA m c) (fd := f) (D := kLand m c h) (j := n.val) (u := 0) () NK rfl subset_rfl n.isLt (Nat.zero_le _)
      (sep_elim_left.trans (Entails.of_eq (pointsTo_congr fun i hi => land_k (kA m c) c h n f i hi)))) $$ [HKs Hk HB]
  · isplitl [HKs]; · iexact HKs
    isplitl [Hk]; · unfold kPts; iexact Hk
    iexact HB
  iintro HB
  iapply (Transfers.wp_dmaBatch EC 𝒱₀ (c : Thread nD τ) none (src := kvSrc vHbm c h n) (dst := kvDst vBuf (par h) n)
      (via := .same) (fs := vA m c) (fd := g) (D := vLand m c h) (j := n.val) (u := 0) () NV rfl subset_rfl n.isLt (Nat.zero_le _)
      (sep_elim_left.trans (Entails.of_eq (pointsTo_congr fun i hi => land_v (vA m c) c h n g i hi)))) $$ [HVs Hv HB']
  · isplitl [HVs]; · iexact HVs
    isplitl [Hv]; · unfold vPts; iexact Hv
    iexact HB'
  iintro HB'
  iapply Hc
  isplitl [HKr HVr]
  · isplitl [HKr]
    · iexists _; iexact HKr
    · iexists _; iexact HVr
  isplitl [HB]; · iexact HB
  iexact HB'

/-- All of hop `h`'s copies are issued. -/
theorem starts_wp (h : Fin 8) {k : Body F} {Q : PUnit → sProp 𝕄} :
    iprop(kvArr m c ∗ kvIdle c (par h))
      ⊢ iprop(((kvArr m c ∗ kvBusy m c h) -∗ run c k Q) -∗ run c (starts c h heads k) Q) := by
  unfold kvIdle kvZero kvBusy starts
  iintro ⟨HA, ⟨%f, Hk⟩, ⟨%g, Hv⟩, Hzk, Hzv⟩ Hc
  imod (Transfers.batch_alloc' EC (c : Thread nD τ) (sm := .dma (kSem (par h))) () NK (kLand m c h) (E := Set.univ)) $$ Hzk with HB
  imod (Transfers.batch_alloc' EC (c : Thread nD τ) (sm := .dma (vSem (par h))) () NV (vLand m c h) (E := Set.univ)) $$ Hzv with HB'
  ihave Hk := (Entails.of_eq ((kPts_heads c (par h) f).trans (bigSep_heads _))) $$ Hk
  ihave Hv := (Entails.of_eq ((vPts_heads c (par h) g).trans (bigSep_heads _))) $$ Hv
  icases Hk with ⟨Hk0, Hk1, Hk2, Hk3, Hk4, Hk5, Hk6, Hk7⟩
  icases Hv with ⟨Hv0, Hv1, Hv2, Hv3, Hv4, Hv5, Hv6, Hv7⟩
  iapply (startOne_wp m c h 0 f g) $$ [HA Hk0 Hv0 HB HB']
  · isplitl [HA]; · iexact HA
    isplitl [Hk0]; · iexact Hk0
    isplitl [Hv0]; · iexact Hv0
    isplitl [HB]; · iexact HB
    iexact HB'
  iintro ⟨HA, HB, HB'⟩
  iapply (startOne_wp m c h 1 f g) $$ [HA Hk1 Hv1 HB HB']
  · isplitl [HA]; · iexact HA
    isplitl [Hk1]; · iexact Hk1
    isplitl [Hv1]; · iexact Hv1
    isplitl [HB]; · iexact HB
    iexact HB'
  iintro ⟨HA, HB, HB'⟩
  iapply (startOne_wp m c h 2 f g) $$ [HA Hk2 Hv2 HB HB']
  · isplitl [HA]; · iexact HA
    isplitl [Hk2]; · iexact Hk2
    isplitl [Hv2]; · iexact Hv2
    isplitl [HB]; · iexact HB
    iexact HB'
  iintro ⟨HA, HB, HB'⟩
  iapply (startOne_wp m c h 3 f g) $$ [HA Hk3 Hv3 HB HB']
  · isplitl [HA]; · iexact HA
    isplitl [Hk3]; · iexact Hk3
    isplitl [Hv3]; · iexact Hv3
    isplitl [HB]; · iexact HB
    iexact HB'
  iintro ⟨HA, HB, HB'⟩
  iapply (startOne_wp m c h 4 f g) $$ [HA Hk4 Hv4 HB HB']
  · isplitl [HA]; · iexact HA
    isplitl [Hk4]; · iexact Hk4
    isplitl [Hv4]; · iexact Hv4
    isplitl [HB]; · iexact HB
    iexact HB'
  iintro ⟨HA, HB, HB'⟩
  iapply (startOne_wp m c h 5 f g) $$ [HA Hk5 Hv5 HB HB']
  · isplitl [HA]; · iexact HA
    isplitl [Hk5]; · iexact Hk5
    isplitl [Hv5]; · iexact Hv5
    isplitl [HB]; · iexact HB
    iexact HB'
  iintro ⟨HA, HB, HB'⟩
  iapply (startOne_wp m c h 6 f g) $$ [HA Hk6 Hv6 HB HB']
  · isplitl [HA]; · iexact HA
    isplitl [Hk6]; · iexact Hk6
    isplitl [Hv6]; · iexact Hv6
    isplitl [HB]; · iexact HB
    iexact HB'
  iintro ⟨HA, HB, HB'⟩
  iapply (startOne_wp m c h 7 f g) $$ [HA Hk7 Hv7 HB HB']
  · isplitl [HA]; · iexact HA
    isplitl [Hk7]; · iexact Hk7
    isplitl [Hv7]; · iexact Hv7
    isplitl [HB]; · iexact HB
    iexact HB'
  iintro ⟨HA, HB, HB'⟩
  iapply Hc
  isplitl [HA]; · iexact HA
  isplitl [HB]; · iexact HB
  iexact HB'

theorem kSem_ne (s : Fin 2) : ∀ k, csem k ≠ .dma (kSem s) := by
  have h : ∀ (s : Fin 2) (k : Cell), csem k ≠ .dma (kSem s) := by decide +kernel
  exact h s
theorem vSem_ne (s : Fin 2) : ∀ k, csem k ≠ .dma (vSem s) := by
  have h : ∀ (s : Fin 2) (k : Cell), csem k ≠ .dma (vSem s) := by decide +kernel
  exact h s

/-- One wait for K and one for V, not the last ones. -/
theorem waitOne_wp (h n : Fin 8) (l : List (Fin 7)) (u u' : ℕ) (hu : u + NK < NK * 8) (hu' : u' + NV < NV * 8) {k : Body F} {Q : PUnit → sProp 𝕄} :
    iprop(levAts L lv ∗ kBatch m c h 8 u ∗ vBatch m c h 8 u' ∗ owesE c (oweFrom c l))
      ⊢ iprop(((kBatch m c h 8 (u + NK) ∗ vBatch m c h 8 (u' + NV) ∗ owesE c (oweFrom c l)) -∗ run c k Q) -∗ run c (waitOne (par h) n k) Q) := by
  unfold owesE waitOne
  iintro ⟨#Hlev, HB, HB', ⟨%W, HO⟩⟩ Hc
  iapply (Transfers.wp_waitBatchO EC 𝒱₀ (c : Thread nD τ) none (sem := kSem (par h)) (srcw := kvAny kHbm) (dstw := kvDst kBuf (par h) n) () rfl hu
    (O := oweFrom c l) (W := W)) $$ [HB HO]
  · isplitl [HB]; · iexact HB
    isplitl [HO]; · iexact HO
    iapply (mayWait_from c (.dma (kSem (par h))) l 0 (le_of_eq (lv_none c _ (kSem_ne _))) (fun i _ => Nat.succ_pos _))
    iexact Hlev
  iintro ⟨HB, HO⟩
  iapply (Transfers.wp_waitBatchO EC 𝒱₀ (c : Thread nD τ) none (sem := vSem (par h)) (srcw := kvAny vHbm) (dstw := kvDst vBuf (par h) n) () rfl hu'
    (O := oweFrom c l)) $$ [HB' HO]
  · isplitl [HB']; · iexact HB'
    isplitl [HO]; · iexact HO
    iapply (mayWait_from c (.dma (vSem (par h))) l 0 (le_of_eq (lv_none c _ (vSem_ne _))) (fun i _ => Nat.succ_pos _))
    iexact Hlev
  iintro ⟨HB', HO⟩
  iapply Hc
  isplitl [HB]; · iexact HB
  isplitl [HB']; · iexact HB'
  iexists _; iexact HO

/-- The last wait for K and the last for V: all has landed. -/
theorem waitLast_wp (h n : Fin 8) (l : List (Fin 7)) (u u' : ℕ) (hu : u + NK = NK * 8) (hu' : u' + NV = NV * 8) {k : Body F} {Q : PUnit → sProp 𝕄} :
    iprop(levAts L lv ∗ kBatch m c h 8 u ∗ vBatch m c h 8 u' ∗ owesE c (oweFrom c l))
      ⊢ iprop(((kvFull m c h ∗ owesE c (oweFrom c l)) -∗ run c k Q) -∗ run c (waitOne (par h) n k) Q) := by
  unfold owesE waitOne kvFull kvZero
  iintro ⟨#Hlev, HB, HB', ⟨%W, HO⟩⟩ Hc
  iapply (Transfers.wp_waitBatchLastO EC 𝒱₀ (c : Thread nD τ) none (sem := kSem (par h)) (srcw := kvAny kHbm) (dstw := kvDst kBuf (par h) n) () rfl NK_pos hu
    (O := oweFrom c l) (W := W)) $$ [HB HO]
  · isplitl [HB]; · iexact HB
    isplitl [HO]; · iexact HO
    iapply (mayWait_from c (.dma (kSem (par h))) l 0 (le_of_eq (lv_none c _ (kSem_ne _))) (fun i _ => Nat.succ_pos _))
    iexact Hlev
  iintro ⟨Hk, Hz, HO⟩
  iapply (Transfers.wp_waitBatchLastO EC 𝒱₀ (c : Thread nD τ) none (sem := vSem (par h)) (srcw := kvAny vHbm) (dstw := kvDst vBuf (par h) n) () rfl NV_pos hu'
    (O := oweFrom c l)) $$ [HB' HO]
  · isplitl [HB']; · iexact HB'
    isplitl [HO]; · iexact HO
    iapply (mayWait_from c (.dma (vSem (par h))) l 0 (le_of_eq (lv_none c _ (vSem_ne _))) (fun i _ => Nat.succ_pos _))
    iexact Hlev
  iintro ⟨Hv, Hz', HO⟩
  ihave Hk := (kLand_heads m c h) $$ Hk
  ihave Hv := (vLand_heads m c h) $$ Hv
  iapply Hc
  isplitr [HO]
  · isplitl [Hk]; · iexact Hk
    isplitl [Hv]; · iexact Hv
    isplitl [Hz]; · iexact Hz
    iexact Hz'
  iexists _; iexact HO

/-- All of hop `h`'s copies are waited for. -/
theorem waits_wp (h : Fin 8) (l : List (Fin 7)) {k : Body F} {Q : PUnit → sProp 𝕄} :
    iprop(levAts L lv ∗ kvBusy m c h ∗ owesE c (oweFrom c l))
      ⊢ iprop(((kvFull m c h ∗ owesE c (oweFrom c l)) -∗ run c k Q) -∗ run c (waits (par h) heads k) Q) := by
  have hk := NK_pos
  have hv := NV_pos
  unfold kvBusy waits
  iintro ⟨#Hlev, ⟨HB, HB'⟩, HO⟩ Hc
  iapply (waitOne_wp m c h 0 l (0) (0) (by omega) (by omega)) $$ [HB HB' HO]
  · isplitr; · iexact Hlev
    isplitl [HB]; · iexact HB
    isplitl [HB']; · iexact HB'
    iexact HO
  iintro ⟨HB, HB', HO⟩
  iapply (waitOne_wp m c h 1 l (0 + NK) (0 + NV) (by omega) (by omega)) $$ [HB HB' HO]
  · isplitr; · iexact Hlev
    isplitl [HB]; · iexact HB
    isplitl [HB']; · iexact HB'
    iexact HO
  iintro ⟨HB, HB', HO⟩
  iapply (waitOne_wp m c h 2 l (0 + NK + NK) (0 + NV + NV) (by omega) (by omega)) $$ [HB HB' HO]
  · isplitr; · iexact Hlev
    isplitl [HB]; · iexact HB
    isplitl [HB']; · iexact HB'
    iexact HO
  iintro ⟨HB, HB', HO⟩
  iapply (waitOne_wp m c h 3 l (0 + NK + NK + NK) (0 + NV + NV + NV) (by omega) (by omega)) $$ [HB HB' HO]
  · isplitr; · iexact Hlev
    isplitl [HB]; · iexact HB
    isplitl [HB']; · iexact HB'
    iexact HO
  iintro ⟨HB, HB', HO⟩
  iapply (waitOne_wp m c h 4 l (0 + NK + NK + NK + NK) (0 + NV + NV + NV + NV) (by omega) (by omega)) $$ [HB HB' HO]
  · isplitr; · iexact Hlev
    isplitl [HB]; · iexact HB
    isplitl [HB']; · iexact HB'
    iexact HO
  iintro ⟨HB, HB', HO⟩
  iapply (waitOne_wp m c h 5 l (0 + NK + NK + NK + NK + NK) (0 + NV + NV + NV + NV + NV) (by omega) (by omega)) $$ [HB HB' HO]
  · isplitr; · iexact Hlev
    isplitl [HB]; · iexact HB
    isplitl [HB']; · iexact HB'
    iexact HO
  iintro ⟨HB, HB', HO⟩
  iapply (waitOne_wp m c h 6 l (0 + NK + NK + NK + NK + NK + NK) (0 + NV + NV + NV + NV + NV + NV) (by omega) (by omega)) $$ [HB HB' HO]
  · isplitr; · iexact Hlev
    isplitl [HB]; · iexact HB
    isplitl [HB']; · iexact HB'
    iexact HO
  iintro ⟨HB, HB', HO⟩
  iapply (waitLast_wp m c h 7 l (0 + NK + NK + NK + NK + NK + NK + NK) (0 + NV + NV + NV + NV + NV + NV + NV) (by omega) (by omega)) $$ [HB HB' HO]
  · isplitr; · iexact Hlev
    isplitl [HB]; · iexact HB
    isplitl [HB']; · iexact HB'
    iexact HO
  iintro ⟨Hf, HO⟩
  iapply Hc
  isplitl [Hf]; · iexact Hf
  iexact HO

end Cert.KernelIdeal.Hops

end
-- ==== Proof.Compute.lean ====
/-
The loads, the arithmetic and the stores of one hop, and the copy of the device's own blocks into their slots.
-/
module

public import proofs.«01_k».proof.Proof.Local

@[expose] public section

set_option synthInstance.maxSize 4096

noncomputable section

namespace Cert.KernelIdeal.Hops

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Where the loads and stores reach -/

/-- A rectangle of a whole buffer lies in `S` if its indices do: for a store and for a load. -/
theorem slice_sub {b : Ref sig .tc} {r : Rect b.ty.shape} {S : Finset b.ty.Idx} (h : ∀ i, i ∈ r.set → i ∈ S) : ((View.whole b).slice r).set ⊆ S :=
  fun i hi => h i ((ValueKit.mem_set_slice_whole_iff b r i Iff.rfl).mp hi)
theorem rect_sub {b : Ref sig .tc} {r : Rect b.ty.shape} {S : Finset b.ty.Idx} (h : ∀ i, i ∈ r.set → i ∈ S) :
    (View.whole b).setOn r.toLoadRect.set ⊆ S :=
  (Finset.Subset.trans (subset_of_eq (View.set_slice (View.whole b) r).symm) (slice_sub h))

theorem off_slotQ {off : Fin 3 → Nat} (o : Fin 8) (e : off = ![o.val, 0, 0]) (inb : ∀ a, off a + S1x768x512.size a ≤ S8x768x512.size a)
    (i : S8x768x512.Idx) (hi : i ∈ (Rect.unit (s := S8x768x512) off S1x768x512.size inb).set) : i ∈ (slotQ o).view.set := by
  subst e
  have h0 := Rect.mem_set_unit.mp hi 0
  exact (mem_slotQ o i).mpr (Fin.ext (by change o.val ≤ (i 0).val ∧ (i 0).val < o.val + 1 at h0; omega))
theorem off_slotO {off : Fin 3 → Nat} (o : Fin 8) (e : off = ![o.val, 0, 0]) (inb : ∀ a, off a + S1x512x768.size a ≤ S8x512x768.size a)
    (i : S8x512x768.Idx) (hi : i ∈ (Rect.unit (s := S8x512x768) off S1x512x768.size inb).set) : i ∈ (slotO o).view.set := by
  subst e
  have h0 := Rect.mem_set_unit.mp hi 0
  exact (mem_slotO o i).mpr (Fin.ext (by change o.val ≤ (i 0).val ∧ (i 0).val < o.val + 1 at h0; omega))

theorem kvOff_zero : ∀ (s : Fin 2) (t : Fin k0_t1_loop.trips) (r : Fin 2), kvOff s t (BitVec.ofNat 32 r.val) 0 = s.val := by decide +kernel
theorem off_half (s : Fin 2) (t : Fin k0_t1_loop.trips) (r : Fin 2) (i : S2x8x2x512x64.Idx)
    (hi : i ∈ (Rect.unit (s := S2x8x2x512x64) (kvOff s t (BitVec.ofNat 32 r.val)) S1x1x1x512x64.size (kvOff_inb s t r)).set) : i ∈ half s := by
  have h0 := Rect.mem_set_unit.mp hi 0
  rw [kvOff_zero] at h0
  exact (mem_half s i).mpr (Fin.ext (by change s.val ≤ (i 0).val ∧ (i 0).val < s.val + 1 at h0; omega))

/-! ## The device's own blocks -/

/-- A whole buffer of device `c` at contents `f`. -/
abbrev bufPts (b : Ref sig .tc) (f : Buf (Elt F) ((c : Thread nD τ).loc b)) : sProp 𝕄 := (c : Thread nD τ).loc b ↦{fullShare} f

theorem hz2 : (![0, 0] : Fin 2 → Nat) = fun _ => 0 := funext fun a => by fin_cases a <;> rfl
theorem hz3 : (![0, 0, 0] : Fin 3 → Nat) = fun _ => 0 := funext fun a => by fin_cases a <;> rfl

theorem ownQ_done (f : S8x768x512.Idx → Elt F .f32) :
    ((c : Thread nD τ).loc cc0_scratch0 ↦[(slotQ c).view.set]{fullShare}
        (wqAll.access (Rect.unit (s := S8x768x512) (k0_off2 c) S1x768x512.size (k0_off2_inb c)) : View sig .tc _ _ _).write (Elt F) f
          (k0_pay35 (wqStg m c)) Finset.univ)
      ⊢ ((c : Thread nD τ).loc cc0_scratch0 ↦[(slotQ c).view.set]{fullShare} wqF m : sProp 𝕄) :=
  Entails.of_eq (pointsTo_congr fun i hi => own_wq m c f i hi)
theorem ownO_done (f : S8x512x768.Idx → Elt F .f32) :
    ((c : Thread nD τ).loc cc0_scratch1 ↦[(slotO c).view.set]{fullShare}
        (woAll.access (Rect.unit (s := S8x512x768) (k0_off3 c) S1x512x768.size (k0_off3_inb c)) : View sig .tc _ _ _).write (Elt F) f
          (k0_pay36 (woStg m c)) Finset.univ)
      ⊢ ((c : Thread nD τ).loc cc0_scratch1 ↦[(slotO c).view.set]{fullShare} woF m : sProp 𝕄) :=
  Entails.of_eq (pointsTo_congr fun i hi => own_wo m c f i hi)

/-- The own blocks go into slot `c` of the two gathered buffers. -/
theorem own_wp {k : Body F} {Q : PUnit → sProp 𝕄} :
    iprop(bufPts c cc0_stg1_0 (wqStg m c) ∗ bufPts c cc0_stg2_0 (woStg m c)
        ∗ (∃ f, qPts c (ori c 0) fullShare f) ∗ (∃ f, oPts c (ori c 0) fullShare f))
      ⊢ iprop(((bufPts c cc0_stg1_0 (wqStg m c) ∗ bufPts c cc0_stg2_0 (woStg m c)
            ∗ qPts c (ori c 0) fullShare (wqF m) ∗ oPts c (ori c 0) fullShare (woF m)) -∗ run c k Q)
          -∗ run c (own (Memref.whole cc0_stg1_0) (Memref.whole cc0_stg2_0) c k) Q) := by
  rw [ori_zero]
  unfold qPts oPts own
  iintro ⟨H1, H2, ⟨%f, Hq⟩, ⟨%g, Ho⟩⟩ Hk
  iapply (wp_load 𝒱₀ (c : Thread nD τ) none Set.univ (m := Memref.whole cc0_stg1_0) (Finset.subset_univ _)) $$ H1; iintro H1
  rw [show (Memref.whole cc0_stg1_0 : Memref sig .tc .vmem S768x512 .f32).view.readAt (Elt F)
    (Rect.unit (s := S768x512) ![0, 0] S768x512.size inb_S768x512_S768x512_0_0).toLoadRect (wqStg m c) = wqStg m c from
    Memref.readAt_unit_zero (Elt F) cc0_stg1_0 hz2 _ _]
  iapply (wp_load 𝒱₀ (c : Thread nD τ) none Set.univ (m := wqAll) (rect_sub (b := cc0_scratch0) (off_slotQ c (k0_off2_eq c) (k0_off2_inb c)))) $$ Hq; iintro Hq
  iapply (wp_store 𝒱₀ (c : Thread nD τ) none Set.univ (m := wqAll) (r := Rect.unit (s := S8x768x512) (k0_off2 c) S1x768x512.size (k0_off2_inb c)) (Mk := Finset.univ)
    (slice_sub (b := cc0_scratch0) (off_slotQ c (k0_off2_eq c) (k0_off2_inb c)))) $$ Hq; iintro Hq
  iapply (wp_load 𝒱₀ (c : Thread nD τ) none Set.univ (m := Memref.whole cc0_stg2_0) (Finset.subset_univ _)) $$ H2; iintro H2
  rw [show (Memref.whole cc0_stg2_0 : Memref sig .tc .vmem S512x768 .f32).view.readAt (Elt F)
    (Rect.unit (s := S512x768) ![0, 0] S512x768.size inb_S512x768_S512x768_0_0).toLoadRect (woStg m c) = woStg m c from
    Memref.readAt_unit_zero (Elt F) cc0_stg2_0 hz2 _ _]
  iapply (wp_load 𝒱₀ (c : Thread nD τ) none Set.univ (m := woAll) (rect_sub (b := cc0_scratch1) (off_slotO c (k0_off3_eq c) (k0_off3_inb c)))) $$ Ho; iintro Ho
  iapply (wp_store 𝒱₀ (c : Thread nD τ) none Set.univ (m := woAll) (r := Rect.unit (s := S8x512x768) (k0_off3 c) S1x512x768.size (k0_off3_inb c)) (Mk := Finset.univ)
    (slice_sub (b := cc0_scratch1) (off_slotO c (k0_off3_eq c) (k0_off3_inb c)))) $$ Ho; iintro Ho
  iapply Hk
  isplitl [H1]; · iexact H1
  isplitl [H2]; · iexact H2
  isplitl [Hq]
  · iapply (ownQ_done m c f); iexact Hq
  · iapply (ownO_done m c g); iexact Ho

/-! ## The queries -/

/-- The queries of hop `h`, from any shares of the hop's slots. -/
theorem query_wp (h : Fin 8) (q q' : PosShare TreeShare) {k : FVec F S512x768 .f32 → Body F} {Q : PUnit → sProp 𝕄} :
    iprop(qPts c (ori c h) q (wqF m) ∗ oPts c (ori c h) q' (woF m) ∗ (∃ f, bufPts c cc0_scratch4 f))
      ⊢ iprop(((qPts c (ori c h) q (wqF m) ∗ oPts c (ori c h) q' (woF m) ∗ bufPts c cc0_scratch4 (qV m c h)) -∗ run c (k (woV m c h)) Q)
          -∗ run c (query (k0_pay37 (xStg m c)) c h k) Q) := by
  unfold qPts oPts query
  iintro ⟨Hq, Ho, ⟨%f, Hb⟩⟩ Hk
  iapply (wp_load 𝒱₀ (c : Thread nD τ) none Set.univ (m := wqAll) (rect_sub (b := cc0_scratch0) (off_slotQ (ori c h) (k0_off6_eq c h) (k0_off6_inb c h)))) $$ Hq; iintro Hq
  iapply (wp_load 𝒱₀ (c : Thread nD τ) none Set.univ (m := woAll) (rect_sub (b := cc0_scratch1) (off_slotO (ori c h) (k0_off7_eq c h) (k0_off7_inb c h)))) $$ Ho; iintro Ho
  iapply (wp_load 𝒱₀ (c : Thread nD τ) none Set.univ (m := qBuf) (Finset.subset_univ _)) $$ Hb; iintro Hb
  iapply (wp_store 𝒱₀ (c : Thread nD τ) none Set.univ (m := qBuf) (r := Rect.unit (s := S1024x512) ![0, 0] S1024x512.size inb_S1024x512_S1024x512_0_0) (Mk := Finset.univ) (Finset.subset_univ _)) $$ Hb; iintro Hb
  rw [show (qBuf.access (Rect.unit (s := S1024x512) ![0, 0] S1024x512.size inb_S1024x512_S1024x512_0_0) : View sig .tc _ _ _).write (Elt F) f
      (k0_pay40 (k0_pay37 (xStg m c)) (wqAll.view.readAt (Elt F) (Rect.unit (s := S8x768x512) (k0_off6 c (BitVec.ofNat 32 h.val)) S1x768x512.size (k0_off6_inb c h)).toLoadRect (wqF m)))
      Finset.univ = qV m c h from
    (Memref.write_access_unit_zero_univ (Elt F) cc0_scratch4 hz2 _ f _).trans (by
      unfold qV
      exact congrArg (k0_pay40 _) (View.readAt_unit_congr wqAll.view (k0_off6_eq c h) (k0_off6_inb c h) (slotInbQ (ori c h)) _))]
  rw [show woAll.view.readAt (Elt F) (Rect.unit (s := S8x512x768) (k0_off7 c (BitVec.ofNat 32 h.val)) S1x512x768.size (k0_off7_inb c h)).toLoadRect (woF m)
      = woAll.view.readAt (Elt F) (Rect.unit (s := S8x512x768) ![(ori c h).val, 0, 0] S1x512x768.size (slotInbO (ori c h))).toLoadRect (woF m) from
    View.readAt_unit_congr woAll.view (k0_off7_eq c h) (k0_off7_inb c h) (slotInbO (ori c h)) _]
  iapply Hk
  isplitl [Hq]; · iexact Hq
  isplitl [Ho]; · iexact Ho
  iexact Hb

/-! ## The loop over pairs of heads -/

/-- What holds before trip `t` of hop `h`'s loop: the columns of the earlier trips hold the contexts. -/
def tripInv (h : Fin 8) (t : Nat) (_ : Unit) : sProp 𝕄 :=
  iprop(bufPts c cc0_scratch4 (qV m c h) ∗ kPts c (half (par h)) (kvF (kA m c) c h) ∗ vPts c (half (par h)) (kvF (vA m c) c h)
    ∗ ∃ f : S2x512x512.Idx → Elt F .f32, ⌜∀ i : S2x512x512.Idx, 4 * (i 0).val + (i 2).val / 128 < t → f i = ctxF m c h i⌝ ∗ bufPts c cc0_scratch5 f)

theorem trip_wp (h : Fin 8) (t : Fin k0_t1_loop.trips) (u : Unit) :
    tripInv m c h t.val u
      ⊢ wp frame (wpE (defs₀ (F := F)) 𝒱₀ (c : Thread nD τ) none) Set.univ (trip (par h) k0_pay38 t u) (tripInv m c h (t.val + 1)) := by
  unfold tripInv kPts vPts trip
  iintro ⟨Hq, Hk, Hv, ⟨%f, %hf, Hc⟩⟩
  iapply (wp_load 𝒱₀ (c : Thread nD τ) none Set.univ (m := qBuf) (Finset.subset_univ _)) $$ Hq; iintro Hq
  iapply (wp_load 𝒱₀ (c : Thread nD τ) none Set.univ (m := kBuf) (rect_sub (b := cc0_scratch2) (off_half (par h) t 0))) $$ Hk; iintro Hk
  iapply (wp_load 𝒱₀ (c : Thread nD τ) none Set.univ (m := vBuf) (rect_sub (b := cc0_scratch3) (off_half (par h) t 0))) $$ Hv; iintro Hv
  iapply (wp_load 𝒱₀ (c : Thread nD τ) none Set.univ (m := kBuf) (rect_sub (b := cc0_scratch2) (off_half (par h) t 1))) $$ Hk; iintro Hk
  iapply (wp_load 𝒱₀ (c : Thread nD τ) none Set.univ (m := vBuf) (rect_sub (b := cc0_scratch3) (off_half (par h) t 1))) $$ Hv; iintro Hv
  iapply (wp_load 𝒱₀ (c : Thread nD τ) none Set.univ (m := cBuf) (Finset.subset_univ _)) $$ Hc; iintro Hc
  iapply (wp_store 𝒱₀ (c : Thread nD τ) none Set.univ (m := cBuf) (r := Rect.unit (s := S2x512x512) (k0_off10 t) S1x512x128.size (k0_off10_inb t)) (Mk := Finset.univ) (Finset.subset_univ _)) $$ Hc; iintro Hc
  rw [wp_ret]; imodintro
  isplitl [Hq]; · iexact Hq
  isplitl [Hk]; · iexact Hk
  isplitl [Hv]; · iexact Hv
  iexists (cBuf.access (Rect.unit (s := S2x512x512) (k0_off10 t) S1x512x128.size (k0_off10_inb t)) : View sig .tc _ _ _).write (Elt F) f
      (tripV m c h t) Finset.univ
  isplitr; · ipureintro; exact fun i hi => ctx_step m c h t f hf i hi
  iexact Hc

theorem trips_wp (h : Fin 8) {k : Body F} {Q : PUnit → sProp 𝕄} :
    iprop(bufPts c cc0_scratch4 (qV m c h) ∗ kvFull m c h ∗ (∃ f, bufPts c cc0_scratch5 f))
      ⊢ iprop(((bufPts c cc0_scratch4 (qV m c h) ∗ kvFull m c h ∗ bufPts c cc0_scratch5 (ctxF m c h)) -∗ run c k Q)
          -∗ run c (trips (par h) k0_pay38 k) Q) := by
  unfold kvFull trips
  iintro ⟨Hq, ⟨Hk, Hv, Hz⟩, ⟨%f, Hc⟩⟩ Hcont
  iapply (Scf.wp_for_bind frame (wpE (defs₀ (F := F)) 𝒱₀ (c : Thread nD τ) none) Set.univ _ _ _ k0_t1_ok ⟨⟩ (trip (par h) k0_pay38) (tripInv m c h)
    (fun t u => trip_wp m c h t u)) $$ [Hq Hk Hv Hc]
  · unfold tripInv
    isplitl [Hq]; · iexact Hq
    isplitl [Hk]; · iexact Hk
    isplitl [Hv]; · iexact Hv
    iexists f
    isplitr; · ipureintro; exact fun i hi => absurd hi (Nat.not_lt_zero _)
    iexact Hc
  unfold tripInv
  iintro %u ⟨Hq, Hk, Hv, ⟨%g, %hg, Hc⟩⟩
  have e : g = ctxF m c h := funext fun i => hg i (tripLt i)
  subst e
  iapply Hcont
  isplitl [Hq]; · iexact Hq
  isplitr [Hc]
  · isplitl [Hk]; · iexact Hk
    isplitl [Hv]; · iexact Hv
    iexact Hz
  iexact Hc

/-! ## The result's rows -/

/-- The first hop's two rows. -/
theorem outFirst_wp {k : Body F} {Q : PUnit → sProp 𝕄} :
    iprop(bufPts c cc0_scratch5 (ctxF m c 0) ∗ (∃ f, bufPts c cc0_stg3_0 f))
      ⊢ iprop(((bufPts c cc0_scratch5 (ctxF m c 0) ∗ bufPts c cc0_stg3_0 (outF m c 0)) -∗ run c k Q)
          -∗ run c (outFirst oBuf (woV m c 0) 0 (outFirst oBuf (woV m c 0) 1 k)) Q) := by
  unfold outFirst
  iintro ⟨Hc, ⟨%f, Ho⟩⟩ Hk
  iapply (wp_load 𝒱₀ (c : Thread nD τ) none Set.univ (m := cBuf) (Finset.subset_univ _)) $$ Hc; iintro Hc
  iapply (wp_load 𝒱₀ (c : Thread nD τ) none Set.univ (m := oBuf) (Finset.subset_univ _)) $$ Ho; iintro Ho
  iapply (wp_store 𝒱₀ (c : Thread nD τ) none Set.univ (m := oBuf) (r := rectO 0) (Mk := Finset.univ) (Finset.subset_univ _)) $$ Ho; iintro Ho
  iapply (wp_load 𝒱₀ (c : Thread nD τ) none Set.univ (m := cBuf) (Finset.subset_univ _)) $$ Hc; iintro Hc
  iapply (wp_load 𝒱₀ (c : Thread nD τ) none Set.univ (m := oBuf) (Finset.subset_univ _)) $$ Ho; iintro Ho
  iapply (wp_store 𝒱₀ (c : Thread nD τ) none Set.univ (m := oBuf) (r := rectO 1) (Mk := Finset.univ) (Finset.subset_univ _)) $$ Ho; iintro Ho
  iapply Hk
  isplitl [Hc]; · iexact Hc
  iapply (Entails.of_eq (congrArg (bufPts c cc0_stg3_0) (write_rows f (outRow m c 0)))); iexact Ho

/-- What a later hop's two rows store is the partial result one hop on. -/
theorem outNext_eq (n : Nat) :
    (oBuf.access (rectO 1) : View sig .tc _ _ _).write (Elt F)
      ((oBuf.access (rectO 0) : View sig .tc _ _ _).write (Elt F) (outF m c n)
        (k0_pay47 (woV m c (hop (n + 1))) (ctxRow m c (hop (n + 1)) 0) (oBuf.view.readAt (Elt F) (rectO 0).toLoadRect (outF m c n))) Finset.univ)
      (k0_pay47 (woV m c (hop (n + 1))) (ctxRow m c (hop (n + 1)) 1) (oBuf.view.readAt (Elt F) (rectO 1).toLoadRect
        ((oBuf.access (rectO 0) : View sig .tc _ _ _).write (Elt F) (outF m c n)
          (k0_pay47 (woV m c (hop (n + 1))) (ctxRow m c (hop (n + 1)) 0) (oBuf.view.readAt (Elt F) (rectO 0).toLoadRect (outF m c n))) Finset.univ))) Finset.univ
      = outF m c (n + 1) := by
  rw [read_row_write]
  have e : ∀ b, oBuf.view.readAt (Elt F) (rectO b).toLoadRect (outF m c n) = outRow m c n b := fun b => read_rows (outRow m c n) b
  rw [e 0, e 1]
  exact write_rows (outF m c n) (outRow m c (n + 1))

/-- A later hop's two rows. -/
theorem outNext_wp (n : Nat) (h : Fin 8) (hh : h = hop (n + 1)) {k : Body F} {Q : PUnit → sProp 𝕄} :
    iprop(bufPts c cc0_scratch5 (ctxF m c h) ∗ bufPts c cc0_stg3_0 (outF m c n))
      ⊢ iprop(((bufPts c cc0_scratch5 (ctxF m c h) ∗ bufPts c cc0_stg3_0 (outF m c (n + 1))) -∗ run c k Q)
          -∗ run c (outNext oBuf (woV m c h) 0 (outNext oBuf (woV m c h) 1 k)) Q) := by
  subst hh
  unfold outNext
  iintro ⟨Hc, Ho⟩ Hk
  iapply (wp_load 𝒱₀ (c : Thread nD τ) none Set.univ (m := cBuf) (Finset.subset_univ _)) $$ Hc; iintro Hc
  iapply (wp_load 𝒱₀ (c : Thread nD τ) none Set.univ (m := oBuf) (Finset.subset_univ _)) $$ Ho; iintro Ho
  iapply (wp_load 𝒱₀ (c : Thread nD τ) none Set.univ (m := oBuf) (Finset.subset_univ _)) $$ Ho; iintro Ho
  iapply (wp_store 𝒱₀ (c : Thread nD τ) none Set.univ (m := oBuf) (r := rectO 0) (Mk := Finset.univ) (Finset.subset_univ _)) $$ Ho; iintro Ho
  iapply (wp_load 𝒱₀ (c : Thread nD τ) none Set.univ (m := cBuf) (Finset.subset_univ _)) $$ Hc; iintro Hc
  iapply (wp_load 𝒱₀ (c : Thread nD τ) none Set.univ (m := oBuf) (Finset.subset_univ _)) $$ Ho; iintro Ho
  iapply (wp_load 𝒱₀ (c : Thread nD τ) none Set.univ (m := oBuf) (Finset.subset_univ _)) $$ Ho; iintro Ho
  iapply (wp_store 𝒱₀ (c : Thread nD τ) none Set.univ (m := oBuf) (r := rectO 1) (Mk := Finset.univ) (Finset.subset_univ _)) $$ Ho; iintro Ho
  iapply Hk
  isplitl [Hc]; · iexact Hc
  iapply (Entails.of_eq (congrArg (bufPts c cc0_stg3_0) (outNext_eq m c n))); iexact Ho

end Cert.KernelIdeal.Hops

end
-- ==== Proof.Ring.lean ====
/-
The steps of the ring on a device `c`: the barrier, a hop's two sends, the waits for what arrives and for what
has left. Each lemma says what the step takes and what the rest of the program is left with.
-/
module

public import proofs.«01_k».proof.Proof.Protocol

@[expose] public section

set_option synthInstance.maxSize 4096

noncomputable section

namespace Cert.KernelIdeal.Hops

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- A slot at full share is its two halves. -/
theorem qPts_share (o : Fin 8) (f) : (qPts c o fullShare f : sProp 𝕄) ⊢ iprop(qPts c o fullShare.left f ∗ qPts c o fullShare.right f) :=
  (pointsTo_share (PosShare.mem_left_op_right fullShare)).1
theorem oPts_share (o : Fin 8) (f) : (oPts c o fullShare f : sProp 𝕄) ⊢ iprop(oPts c o fullShare.left f ∗ oPts c o fullShare.right f) :=
  (pointsTo_share (PosShare.mem_left_op_right fullShare)).1
theorem qPts_join (o : Fin 8) (f) : (iprop(qPts c o fullShare.left f ∗ qPts c o fullShare.right f) : sProp 𝕄) ⊢ qPts c o fullShare f :=
  (pointsTo_share (PosShare.mem_left_op_right fullShare)).2
theorem oPts_join (o : Fin 8) (f) : (iprop(oPts c o fullShare.left f ∗ oPts c o fullShare.right f) : sProp 𝕄) ⊢ oPts c o fullShare f :=
  (pointsTo_share (PosShare.mem_left_op_right fullShare)).2

/-- The four families' payloads. -/
theorem pay_0 (h : Fin 7) : xferPay m c 0 h ⊢ qPts c (ori c h.castSucc) fullShare.left (wqF m) := BI.Entails.refl _
theorem pay_1 (h : Fin 7) : xferPay m c 1 h ⊢ qPts c (ori c h.succ) fullShare (wqF m) := BI.Entails.refl _
theorem pay_2 (h : Fin 7) : xferPay m c 2 h ⊢ oPts c (ori c h.castSucc) fullShare.left (woF m) := BI.Entails.refl _
theorem pay_3 (h : Fin 7) : xferPay m c 3 h ⊢ oPts c (ori c h.succ) fullShare (woF m) := BI.Entails.refl _

/-- A slot written with what the same slot of `g` holds is that slot of `g`. -/
theorem landQ (o : Fin 8) (f g : (slotQ o).view.ty.Contents (Elt F)) :
    ((slotQ o).view.loc (c : Thread nD τ) ↦[(slotQ o).view.set]{fullShare}
      ((slotQ o).view.write (Elt F) f ((slotQ o).view.read (Elt F) g) Finset.univ) : sProp 𝕄) = qPts c o fullShare g :=
  pointsTo_congr fun i hi => write_read_of_mem (slotQ o).view f g i hi
theorem landO (o : Fin 8) (f g : (slotO o).view.ty.Contents (Elt F)) :
    ((slotO o).view.loc (c : Thread nD τ) ↦[(slotO o).view.set]{fullShare}
      ((slotO o).view.write (Elt F) f ((slotO o).view.read (Elt F) g) Finset.univ) : sProp 𝕄) = oPts c o fullShare g :=
  pointsTo_congr fun i hi => write_read_of_mem (slotO o).view f g i hi

/-- The left neighbour's copies land in the slots of `c` for the later hops. -/
theorem land_of (d : Dev nD) (o o' : Fin 8) (hd : d = c) (ho : o = o') :
    (iprop((∃ f, qPts d o fullShare f) ∗ (∃ f, oPts d o fullShare f)) : sProp 𝕄)
      = iprop((∃ f, qPts c o' fullShare f) ∗ (∃ f, oPts c o' fullShare f)) := by
  subst hd ho; rfl
theorem barPay_prv : (barPay (prv c) : sProp 𝕄)
    = bigSep Finset.univ fun h : Fin 7 => iprop((∃ f, qPts c (ori c h.succ) fullShare f) ∗ (∃ f, oPts c (ori c h.succ) fullShare f)) :=
  congrArg (bigSep Finset.univ) (funext fun h => land_of c _ _ _ (nxt_prv c) (by rw [← ori_nxt (prv c) h, nxt_prv]))

/-- A wait for one of `c`'s transfer cells: the landing's payload, and the cell closed. -/
theorem wait_wp {s s' : Shape} {e e' : EltTy} {sp sp' : Space} {κ' : Kind} (j : Fin 4) (h : Fin 7)
    {srcw : Memref sig (c : Thread nD τ).2.kind sp' s' e'} {dstw : Memref sig κ' sp s e} {hsrc : srcw.view.WordExact} {hdst : dstw.view.WordExact}
    (hN : dstw.view.dmaCredit = creditOf j) (l : List (Fin 7)) (hl : ∀ i ∈ l, h.val < i.val)
    {k : PUnit → Prog (TpuEff nD τ sig (Elt F) Λ₀ .tc) PUnit} {Q : PUnit → sProp 𝕄} :
    iprop(records m K ∗ levAts L lv ∗ atPos ER (rcCell c j h) 0 ∅ 0 ∗ cred (tallyAt (rcCell c j h) () (creditOf j)) ∗ owesE c (oweFrom c l))
      ⊢ iprop(((xferPay m c j h ∗ semVal (rcCell c j h) 0 ∗ owesE c (oweFrom c l)) -∗ run c (k ⟨⟩) Q)
          -∗ run c (.op (.waitDma2 (rc j h) srcw dstw hsrc hdst) k) Q) := by
  unfold owesE
  iintro ⟨#HR, #Hlev, Hat, Hc, ⟨%W, HO⟩⟩ Hk
  ihave #HI := (inv_at m K (c, some (j, h))) $$ HR
  iapply (Rounds.wp_wait_rest_token 𝒱₀ ER (ringRd m) (c : Thread nD τ) none (κ := K (c, some (j, h)))
      (wpE_waitDma2_eq 𝒱₀ (c : Thread nD τ) none Set.univ) (Set.mem_univ _) () (O := oweFrom c l) (W := W) (R := 0) (m := 0) (T := ∅)
      (by rw [Nat.zero_add, hN]; exact (expect_rc m c j h).symm)) $$ [Hc HO Hat]
  · isplitr; · iexact HI
    isplitl [Hc]; · rw [hN]; iexact Hc
    isplitl [HO]; · iexact HO
    isplitr
    · iapply (mayWait_from c (.dma (rc j h)) l (h.val + 2)
        (by rw [show ((c : Thread nD τ), SemLoc.dma (rc j h)) = rcCell c j h from rfl, lv_rc]; split <;> omega)
        (fun i hi => by have := hl i hi; omega))
      iexact Hlev
    iexact Hat
  iintro ⟨HO, Hat, -, Hpay⟩
  ihave Hp := (Entails.of_eq (rest_rc m c j h)) $$ Hpay
  imod (Rounds.cell_close ER (ringRd m) (Set.mem_univ (K (c, some (j, h)))) (fun h => h) (R := 0 + 1) (duties_later m (rcCell c j h))) $$ [Hat] with Hz
  · isplitr; · iexact HI
    iexact Hat
  iapply Hk
  isplitl [Hp]; · iexact Hp
  isplitl [Hz]; · iexact Hz
  iexists _; iexact HO

/-- The waits for the blocks that arrive at hop `h`. -/
theorem recvs_wp (h : Fin 7) (l : List (Fin 7)) (hl : ∀ i ∈ l, h.val < i.val) {k : Body F} {Q : PUnit → sProp 𝕄} :
    iprop(records m K ∗ levAts L lv ∗ recvStock c h ∗ owesE c (oweFrom c l))
      ⊢ iprop(((qPts c (ori c h.succ) fullShare (wqF m) ∗ oPts c (ori c h.succ) fullShare (woF m) ∗ recvDone c h ∗ owesE c (oweFrom c l)) -∗ run c k Q)
          -∗ run c (recvs c h k) Q) := by
  unfold recvStock recvDone recvs
  iintro ⟨#HR, #Hlev, ⟨Ha1, Ha3, Hc1, Hc3⟩, HO⟩ Hk
  iapply (wait_wp m K c 1 h (srcw := wqSlot c h.succ) (dstw := wqSlot c h.succ) rfl l hl) $$ [Ha1 Hc1 HO]
  · isplitr; · iexact HR
    isplitr; · iexact Hlev
    isplitl [Ha1]; · iexact Ha1
    isplitl [Hc1]; · iexact Hc1
    iexact HO
  iintro ⟨Hp1, Hz1, HO⟩
  iapply (wait_wp m K c 3 h (srcw := woSlot c h.succ) (dstw := woSlot c h.succ) rfl l hl) $$ [Ha3 Hc3 HO]
  · isplitr; · iexact HR
    isplitr; · iexact Hlev
    isplitl [Ha3]; · iexact Ha3
    isplitl [Hc3]; · iexact Hc3
    iexact HO
  iintro ⟨Hp3, Hz3, HO⟩
  iapply Hk
  isplitl [Hp1]; · iapply (pay_1 m c h); iexact Hp1
  isplitl [Hp3]; · iapply (pay_3 m c h); iexact Hp3
  isplitl [Hz1 Hz3]
  · isplitl [Hz1]; · iexact Hz1
    iexact Hz3
  iexact HO

/-- The waits until hop `h`'s copies have left: the shares they read from come back. -/
theorem leaves_wp (h : Fin 7) (l : List (Fin 7)) (hl : ∀ i ∈ l, h.val < i.val) {k : Body F} {Q : PUnit → sProp 𝕄} :
    iprop(records m K ∗ levAts L lv ∗ sentStock c h ∗ qPts c (ori c h.castSucc) fullShare.right (wqF m) ∗ oPts c (ori c h.castSucc) fullShare.right (woF m)
        ∗ owesE c (oweFrom c l))
      ⊢ iprop(((qPts c (ori c h.castSucc) fullShare (wqF m) ∗ oPts c (ori c h.castSucc) fullShare (woF m) ∗ sendDone c h ∗ owesE c (oweFrom c l)) -∗ run c k Q)
          -∗ run c (leaves c h k) Q) := by
  unfold sentStock sendDone leaves
  iintro ⟨#HR, #Hlev, ⟨Ha1, Ha3, Hc1, Hc3⟩, Hq, Ho, HO⟩ Hk
  iapply (wait_wp m K c 0 h (srcw := wqSlot c h.castSucc) (dstw := wqSlot c h.castSucc) rfl l hl) $$ [Ha1 Hc1 HO]
  · isplitr; · iexact HR
    isplitr; · iexact Hlev
    isplitl [Ha1]; · iexact Ha1
    isplitl [Hc1]; · iexact Hc1
    iexact HO
  iintro ⟨Hp1, Hz1, HO⟩
  iapply (wait_wp m K c 2 h (srcw := woSlot c h.castSucc) (dstw := woSlot c h.castSucc) rfl l hl) $$ [Ha3 Hc3 HO]
  · isplitr; · iexact HR
    isplitr; · iexact Hlev
    isplitl [Ha3]; · iexact Ha3
    isplitl [Hc3]; · iexact Hc3
    iexact HO
  iintro ⟨Hp3, Hz3, HO⟩
  iapply Hk
  isplitl [Hp1 Hq]
  · iapply (qPts_join c _ _)
    isplitl [Hp1]; · iapply (pay_0 m c h); iexact Hp1
    iexact Hq
  isplitl [Hp3 Ho]
  · iapply (oPts_join c _ _)
    isplitl [Hp3]; · iapply (pay_2 m c h); iexact Hp3
    iexact Ho
  isplitl [Hz1 Hz3]
  · isplitl [Hz1]; · iexact Hz1
    iexact Hz3
  iexact HO

/-- The copy of the block of Wq of hop `h` to the right neighbour. -/
theorem sendQ_wp (h : Fin 7) (n : Dev nD) (hn : n = nxt c) (M : Memref sig .tc .vmem S768x512 .f32) (hM : M = slotQ (ori c h.castSucc))
    {hsc : M.view.ref.isScScratch = false} {hsrc hdst : M.view.WordExact}
    {hsem : DmaTarget.Typed .vmem (.dma (rc 1 h)) (.remote (Dev.tc n : Thread nD τ) M (.dma (rc 0 h)) hsc)}
    (O : CellTallies nD τ sig Unit) {k : PUnit → Prog (TpuEff nD τ sig (Elt F) Λ₀ .tc) PUnit} {Q : PUnit → sProp 𝕄} :
    iprop(records m K ∗ dutyTok ER (rcCell c 0 h) 0 false ∗ dutyTok ER (rcCell (nxt c) 1 h) 0 false
        ∗ (∃ f, qPts (nxt c) (ori c h.castSucc) fullShare f) ∗ qPts c (ori c h.castSucc) fullShare.left (wqF m)
        ∗ owesE c (O + tallyAt (rcCell (nxt c) 1 h) () NQ))
      ⊢ iprop(((cred (tallyAt (rcCell c 0 h) () NQ) ∗ owesE c O) -∗ run c (k ⟨⟩) Q)
          -∗ run c (.op (.enqueueDma M (.remote (Dev.tc n : Thread nD τ) M (.dma (rc 0 h)) hsc) (.dma (rc 1 h)) hsrc hdst hsem) k) Q) := by
  subst hn hM
  unfold owesE
  iintro ⟨#HR, Ht1, Ht2, ⟨%fd, Hd⟩, Hs, ⟨%W, HO⟩⟩ Hk
  ihave #HI1 := (inv_at m K (c, some (0, h))) $$ HR
  ihave #HI2 := (inv_at m K (nxt c, some (1, h))) $$ HR
  ihave #Hr1 := (reached_at m K (c, some (0, h))) $$ HR
  ihave #Hr2 := (reached_at m K (nxt c, some (1, h))) $$ HR
  unfold qPts
  iapply (Rounds.wp_send_pointsTo 𝒱₀ ER (ringRd m) (c : Thread nD τ) none (κ₁ := K (c, some (0, h))) (κ₂ := K (nxt c, some (1, h)))
    (r₁ := 0) (r₂ := 0) (d₁ := false) (d₂ := false) (fd := fd)
    (by rw [duties_rc]; exact Finset.mem_singleton_self _) (by rw [duties_rc]; exact Finset.mem_singleton_self _)
    () () NQ rfl (amount_rc m c 0 h false) (amount_rc m (nxt c) 1 h false) O rfl (W := W)
    (by rw [payload_rc]; exact BI.Entails.refl _)
    (by
      rw [payload_rc]
      show _ ⊢ qPts (nxt c) (ori (nxt c) h.succ) fullShare (wqF m)
      rw [ori_nxt]
      exact Entails.of_eq (landQ (nxt c) _ fd (wqF m)))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The copy of the block of Wo of hop `h` to the right neighbour. -/
theorem sendO_wp (h : Fin 7) (n : Dev nD) (hn : n = nxt c) (M : Memref sig .tc .vmem S512x768 .f32) (hM : M = slotO (ori c h.castSucc))
    {hsc : M.view.ref.isScScratch = false} {hsrc hdst : M.view.WordExact}
    {hsem : DmaTarget.Typed .vmem (.dma (rc 3 h)) (.remote (Dev.tc n : Thread nD τ) M (.dma (rc 2 h)) hsc)}
    (O : CellTallies nD τ sig Unit) {k : PUnit → Prog (TpuEff nD τ sig (Elt F) Λ₀ .tc) PUnit} {Q : PUnit → sProp 𝕄} :
    iprop(records m K ∗ dutyTok ER (rcCell c 2 h) 0 false ∗ dutyTok ER (rcCell (nxt c) 3 h) 0 false
        ∗ (∃ f, oPts (nxt c) (ori c h.castSucc) fullShare f) ∗ oPts c (ori c h.castSucc) fullShare.left (woF m)
        ∗ owesE c (O + tallyAt (rcCell (nxt c) 3 h) () NO))
      ⊢ iprop(((cred (tallyAt (rcCell c 2 h) () NO) ∗ owesE c O) -∗ run c (k ⟨⟩) Q)
          -∗ run c (.op (.enqueueDma M (.remote (Dev.tc n : Thread nD τ) M (.dma (rc 2 h)) hsc) (.dma (rc 3 h)) hsrc hdst hsem) k) Q) := by
  subst hn hM
  unfold owesE
  iintro ⟨#HR, Ht1, Ht2, ⟨%fd, Hd⟩, Hs, ⟨%W, HO⟩⟩ Hk
  ihave #HI1 := (inv_at m K (c, some (2, h))) $$ HR
  ihave #HI2 := (inv_at m K (nxt c, some (3, h))) $$ HR
  ihave #Hr1 := (reached_at m K (c, some (2, h))) $$ HR
  ihave #Hr2 := (reached_at m K (nxt c, some (3, h))) $$ HR
  unfold oPts
  iapply (Rounds.wp_send_pointsTo 𝒱₀ ER (ringRd m) (c : Thread nD τ) none (κ₁ := K (c, some (2, h))) (κ₂ := K (nxt c, some (3, h)))
    (r₁ := 0) (r₂ := 0) (d₁ := false) (d₂ := false) (fd := fd)
    (by rw [duties_rc]; exact Finset.mem_singleton_self _) (by rw [duties_rc]; exact Finset.mem_singleton_self _)
    () () NO rfl (amount_rc m c 2 h false) (amount_rc m (nxt c) 3 h false) O rfl (W := W)
    (by rw [payload_rc]; exact BI.Entails.refl _)
    (by
      rw [payload_rc]
      show _ ⊢ oPts (nxt c) (ori (nxt c) h.succ) fullShare (woF m)
      rw [ori_nxt]
      exact Entails.of_eq (landO (nxt c) _ fd (woF m)))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Hop `h`'s two sends: a half share of each of the two slots goes with them. -/
theorem sends_wp (h : Fin 7) (l : List (Fin 7)) {k : Body F} {Q : PUnit → sProp 𝕄} :
    iprop(records m K ∗ sendStock c h ∗ landStock c h ∗ qPts c (ori c h.castSucc) fullShare (wqF m) ∗ oPts c (ori c h.castSucc) fullShare (woF m)
        ∗ owesE c (oweFrom c (h :: l)))
      ⊢ iprop(((qPts c (ori c h.castSucc) fullShare.right (wqF m) ∗ oPts c (ori c h.castSucc) fullShare.right (woF m) ∗ sentStock c h
          ∗ owesE c (oweFrom c l)) -∗ run c k Q)
          -∗ run c (sends c h k) Q) := by
  unfold sendStock landStock sentStock sends
  iintro ⟨#HR, ⟨Ha0, Ha2, Ht0, Ht1, Ht2, Ht3⟩, ⟨Hdq, Hdo⟩, Hq, Ho, HO⟩ Hk
  ihave Hq2 := (qPts_share c _ _) $$ Hq
  icases Hq2 with ⟨Hql, Hqr⟩
  ihave Ho2 := (oPts_share c _ _) $$ Ho
  icases Ho2 with ⟨Hol, Hor⟩
  iapply (sendQ_wp m K c h (rgtQ c) (rgtQ_eq c) (wqSlot c h.castSucc) (wqSlot_eq c _) (oweFrom c l + tallyAt (rcCell (nxt c) 3 h) () NO)) $$ [Ht0 Ht1 Hdq Hql HO]
  · isplitr; · iexact HR
    isplitl [Ht0]; · iexact Ht0
    isplitl [Ht1]; · iexact Ht1
    isplitl [Hdq]; · iexact Hdq
    isplitl [Hql]; · iexact Hql
    iexact HO
  iintro ⟨Hc0, HO⟩
  iapply (sendO_wp m K c h (rgtO c) (rgtO_eq c) (woSlot c h.castSucc) (woSlot_eq c _) (oweFrom c l)) $$ [Ht2 Ht3 Hdo Hol HO]
  · isplitr; · iexact HR
    isplitl [Ht2]; · iexact Ht2
    isplitl [Ht3]; · iexact Ht3
    isplitl [Hdo]; · iexact Hdo
    isplitl [Hol]; · iexact Hol
    iexact HO
  iintro ⟨Hc2, HO⟩
  iapply Hk
  isplitl [Hqr]; · iexact Hqr
  isplitl [Hor]; · iexact Hor
  isplitr [HO]
  · isplitl [Ha0]; · iexact Ha0
    isplitl [Ha2]; · iexact Ha2
    isplitl [Hc0]; · iexact Hc0
    iexact Hc2
  iexact HO

/-- A signal to a neighbour's barrier cell, paying the duty `d`. -/
theorem signal_wp (n g : Dev nD) (hn : n = g) (d : Bool) (O : CellTallies nD τ sig Unit)
    {k : PUnit → Prog (TpuEff nD τ sig (Elt F) Λ₀ .tc) PUnit} {Q : PUnit → sProp 𝕄} :
    iprop(records m K ∗ dutyTok ER (barCell g) 0 d ∗ (ringRd m).payload (barCell g) 0 d ∗ owesE c (O + tallyAt (barCell g) () 1))
      ⊢ iprop((owesE c O -∗ run c (k ⟨⟩) Q)
          -∗ run c (.op (.semSignal (n, .tc) barSem (1#32 : BitVec 32).toInt) k) Q) := by
  subst hn
  unfold owesE
  iintro ⟨#HR, Ht, Hp, ⟨%W, HO⟩⟩ Hk
  ihave #HI := (inv_at m K (n, none)) $$ HR
  ihave #Hr := (reached_at m K (n, none)) $$ HR
  iapply (Rounds.wp_signal 𝒱₀ ER (ringRd m) (c : Thread nD τ) none (dst := (n : Thread nD τ)) (κ := K (n, none))
      (d := d) (by rw [duties_bar]; exact Finset.mem_univ _) ((amount_bar m n d).trans (by decide)) () O rfl) $$ [HO Ht Hp]
  · isplitr; · iexact HI
    isplitl [HO]; · iexact HO
    isplitl [Ht]; · iexact Ht
    isplitl [Hp]; · iexact Hp
    iexact Hr
  iintro HO
  iapply Hk
  iexists W; iexact HO

/-- The barrier: `c` gives the left neighbour the slots that neighbour's copies land in, and gets the right
    neighbour's. -/
theorem meet_wp {k : Body F} {Q : PUnit → sProp 𝕄} :
    iprop(records m K ∗ levAts L lv ∗ barStock c
        ∗ (bigSep Finset.univ fun h : Fin 7 => iprop((∃ f, qPts c (ori c h.succ) fullShare f) ∗ (∃ f, oPts c (ori c h.succ) fullShare f)))
        ∗ owesE c (O₀ c))
      ⊢ iprop((((bigSep Finset.univ fun h : Fin 7 => landStock c h) ∗ semVal (barCell c) 0 ∗ owesE c (oweFrom c hops)) -∗ run c k Q)
          -∗ run c (meet c k) Q) := by
  unfold barStock meet
  iintro ⟨#HR, #Hlev, ⟨Hat, Htn, Htp, Hc⟩, Hslots, HO⟩ Hk
  iapply (signal_wp m K c (lft c) (prv c) (lft_eq c) true (O₁ c)) $$ [Htp Hslots HO]
  · isplitr; · iexact HR
    isplitl [Htp]; · iexact Htp
    isplitl [Hslots]
    · rw [payload_bar_true, barPay_prv]
      iexact Hslots
    iexact HO
  iintro HO
  iapply (signal_wp m K c (rgt c) (nxt c) (rgt_eq c) false (oweFrom c hops)) $$ [Htn HO]
  · isplitr; · iexact HR
    isplitl [Htn]; · iexact Htn
    isplitr; · rw [payload_bar_false]; iempintro
    iexact HO
  unfold owesE
  iintro ⟨%W, HO⟩
  ihave #HI := (inv_at m K (c, none)) $$ HR
  iapply (Rounds.wp_wait_rest_token 𝒱₀ ER (ringRd m) (c : Thread nD τ) none (κ := K (c, none))
      (wpE_semWait_eq 𝒱₀ (c : Thread nD τ) none Set.univ) (Set.mem_univ _) () (O := oweFrom c hops) (W := W) (R := 0) (m := 0) (T := ∅)
      (by rw [show ((c : Thread nD τ), SemLoc.reg barSem) = barCell c from rfl, expect_bar]; decide)) $$ [Hc HO Hat]
  · isplitr; · iexact HI
    isplitl [Hc]; · iexact Hc
    isplitl [HO]; · iexact HO
    isplitr
    · iapply (mayWait_from c (.reg barSem) hops 1 (by rw [show ((c : Thread nD τ), SemLoc.reg barSem) = barCell c from rfl, lv_bar]) (fun h _ => by omega))
      iexact Hlev
    iexact Hat
  iintro ⟨HO, Hat, -, Hpay⟩
  ihave Hp := (Entails.of_eq (rest_bar m c)) $$ Hpay
  icases Hp with ⟨-, Hp⟩
  imod (Rounds.cell_close ER (ringRd m) (Set.mem_univ (K (c, none))) (fun h => h) (R := 0 + 1) (duties_later m (barCell c))) $$ [Hat] with Hz
  · isplitr; · iexact HI
    iexact Hat
  ihave Hp := (show (barPay c : sProp 𝕄) ⊢ bigSep Finset.univ fun h : Fin 7 => landStock c h from BI.Entails.refl _) $$ Hp
  iapply Hk
  isplitl [Hp]; · iexact Hp
  isplitl [Hz]; · iexact Hz
  iexists _; iexact HO

end Cert.KernelIdeal.Hops

end
-- ==== Proof.Hops.lean ====
/-
The hops in order, and the whole body: from the stocks of one device to all slots gathered and the result stored.
-/
module

public import proofs.«01_k».proof.Proof.Compute
public import proofs.«01_k».proof.Proof.Ring

@[expose] public section

set_option synthInstance.maxSize 4096

noncomputable section

namespace Cert.KernelIdeal.Hops

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- The two buffers that every hop overwrites: the queries and the contexts. -/
def work : sProp 𝕄 := iprop((∃ f, bufPts c cc0_scratch4 f) ∗ (∃ f, bufPts c cc0_scratch5 f))

/-- A hop's two slots at shares `q` and `q'`. -/
def slots (h : Fin 8) (q : PosShare TreeShare) : sProp 𝕄 :=
  iprop(qPts c (ori c h) q (wqF m) ∗ oPts c (ori c h) q (woF m))

/-- The queries, the wait for K and V, the loop. -/
theorem compute_wp (h : Fin 8) (q : PosShare TreeShare) (l : List (Fin 7)) {k : FVec F S512x768 .f32 → Body F} {Q : PUnit → sProp 𝕄} :
    iprop(levAts L lv ∗ slots m c h q ∗ work c ∗ kvBusy m c h ∗ owesE c (oweFrom c l))
      ⊢ iprop(((slots m c h q ∗ bufPts c cc0_scratch4 (qV m c h) ∗ bufPts c cc0_scratch5 (ctxF m c h) ∗ kvIdle c (par h) ∗ owesE c (oweFrom c l))
            -∗ run c (k (woV m c h)) Q) -∗ run c (compute (k0_pay37 (xStg m c)) c h k) Q) := by
  unfold slots work compute
  iintro ⟨#HL, ⟨Hq, Ho⟩, ⟨H4, H5⟩, Hkv, HO⟩ Hk
  iapply (query_wp m c h q q) $$ [Hq Ho H4]
  · isplitl [Hq]; · iexact Hq
    isplitl [Ho]; · iexact Ho
    iexact H4
  iintro ⟨Hq, Ho, H4⟩
  iapply (waits_wp m c h l) $$ [Hkv HO]
  · isplitr; · iexact HL
    isplitl [Hkv]; · iexact Hkv
    iexact HO
  iintro ⟨Hkv, HO⟩
  iapply (trips_wp m c h) $$ [Hkv H4 H5]
  · isplitl [H4]; · iexact H4
    isplitl [Hkv]; · iexact Hkv
    iexact H5
  iintro ⟨H4, Hkv, H5⟩
  iapply Hk
  isplitl [Hq Ho]
  · isplitl [Hq]; · iexact Hq
    iexact Ho
  isplitl [H4]; · iexact H4
  isplitl [H5]; · iexact H5
  isplitl [Hkv]; · iapply (kvFull_idle m c h); iexact Hkv
  iexact HO

theorem work_of (h : Fin 8) : iprop(bufPts c cc0_scratch4 (qV m c h) ∗ bufPts c cc0_scratch5 (ctxF m c h)) ⊢ (work c : sProp 𝕄) := by
  unfold work
  iintro ⟨H4, H5⟩
  isplitl [H4]; · iexists _; iexact H4
  iexists _; iexact H5

/-- The sends with the two slots as one resource; the hop is named by its number among eight. -/
theorem sendsAt_wp (h : Fin 7) (l : List (Fin 7)) {k : Body F} {Q : PUnit → sProp 𝕄} :
    iprop(records m K ∗ sendStock c h ∗ landStock c h ∗ slots m c h.castSucc fullShare ∗ owesE c (oweFrom c (h :: l)))
      ⊢ iprop(((slots m c h.castSucc fullShare.right ∗ sentStock c h ∗ owesE c (oweFrom c l)) -∗ run c k Q) -∗ run c (sends c h k) Q) := by
  unfold slots
  iintro ⟨#HR, Hs, Hl, ⟨Hq, Ho⟩, HO⟩ Hk
  iapply (sends_wp m K c h l) $$ [Hs Hl Hq Ho HO]
  · isplitr; · iexact HR
    isplitl [Hs]; · iexact Hs
    isplitl [Hl]; · iexact Hl
    isplitl [Hq]; · iexact Hq
    isplitl [Ho]; · iexact Ho
    iexact HO
  iintro ⟨Hq, Ho, Hs, HO⟩
  iapply Hk
  isplitl [Hq Ho]
  · isplitl [Hq]; · iexact Hq
    iexact Ho
  isplitl [Hs]; · iexact Hs
  iexact HO

theorem leavesAt_wp (h : Fin 7) (l : List (Fin 7)) (hl : ∀ i ∈ l, h.val < i.val) {k : Body F} {Q : PUnit → sProp 𝕄} :
    iprop(records m K ∗ levAts L lv ∗ sentStock c h ∗ slots m c h.castSucc fullShare.right ∗ owesE c (oweFrom c l))
      ⊢ iprop(((slots m c h.castSucc fullShare ∗ sendDone c h ∗ owesE c (oweFrom c l)) -∗ run c k Q) -∗ run c (leaves c h k) Q) := by
  unfold slots
  iintro ⟨#HR, #HL, Hs, ⟨Hq, Ho⟩, HO⟩ Hk
  iapply (leaves_wp m K c h l hl) $$ [Hs Hq Ho HO]
  · isplitr; · iexact HR
    isplitr; · iexact HL
    isplitl [Hs]; · iexact Hs
    isplitl [Hq]; · iexact Hq
    isplitl [Ho]; · iexact Ho
    iexact HO
  iintro ⟨Hq, Ho, Hs, HO⟩
  iapply Hk
  isplitl [Hq Ho]
  · isplitl [Hq]; · iexact Hq
    iexact Ho
  isplitl [Hs]; · iexact Hs
  iexact HO

theorem recvsAt_wp (h : Fin 7) (l : List (Fin 7)) (hl : ∀ i ∈ l, h.val < i.val) {k : Body F} {Q : PUnit → sProp 𝕄} :
    iprop(records m K ∗ levAts L lv ∗ recvStock c h ∗ owesE c (oweFrom c l))
      ⊢ iprop(((slots m c h.succ fullShare ∗ recvDone c h ∗ owesE c (oweFrom c l)) -∗ run c k Q) -∗ run c (recvs c h k) Q) := by
  unfold slots
  iintro H Hk
  iapply (recvs_wp m K c h l hl) $$ H
  iintro ⟨Hq, Ho, Hs, HO⟩
  iapply Hk
  isplitl [Hq Ho]
  · isplitl [Hq]; · iexact Hq
    iexact Ho
  isplitl [Hs]; · iexact Hs
  iexact HO

/-! ## The hops -/

theorem hopFirst_wp (l : List (Fin 7)) (hl : ∀ i ∈ l, 0 < i.val) {k : Body F} {Q : PUnit → sProp 𝕄} :
    iprop(records m K ∗ levAts L lv ∗ kvArr m c ∗ kvBusy m c 0 ∗ kvIdle c (par 1) ∗ work c
        ∗ sendStock c 0 ∗ landStock c 0 ∗ slots m c 0 fullShare ∗ (∃ f, bufPts c cc0_stg3_0 f) ∗ owesE c (oweFrom c (0 :: l)))
      ⊢ iprop(((kvArr m c ∗ kvBusy m c 1 ∗ kvIdle c (par 0) ∗ work c ∗ bufPts c cc0_stg3_0 (outF m c 0)
            ∗ (slots m c 0 fullShare ∗ sendDone c 0) ∗ owesE c (oweFrom c l)) -∗ run c k Q)
          -∗ run c (hopFirst oBuf (k0_pay37 (xStg m c)) c k) Q) := by
  unfold hopFirst
  iintro ⟨#HR, #HL, HA, Hb, Hi, Hw, Hs, Hl, Hsl, Hout, HO⟩ Hk
  iapply (starts_wp m c 1) $$ [HA Hi]
  · isplitl [HA]; · iexact HA
    iexact Hi
  iintro ⟨HA, Hn⟩
  iapply (sendsAt_wp m K c 0 l) $$ [Hs Hl Hsl HO]
  · isplitr; · iexact HR
    isplitl [Hs]; · iexact Hs
    isplitl [Hl]; · iexact Hl
    isplitl [Hsl]; · iexact Hsl
    iexact HO
  iintro ⟨Hsl, Hs, HO⟩
  iapply (compute_wp m c 0 fullShare.right l) $$ [Hsl Hw Hb HO]
  · isplitr; · iexact HL
    isplitl [Hsl]; · iexact Hsl
    isplitl [Hw]; · iexact Hw
    isplitl [Hb]; · iexact Hb
    iexact HO
  iintro ⟨Hsl, H4, H5, Hi, HO⟩
  iapply (outFirst_wp m c) $$ [H5 Hout]
  · isplitl [H5]; · iexact H5
    iexact Hout
  iintro ⟨H5, Hout⟩
  iapply (leavesAt_wp m K c 0 l hl) $$ [Hs Hsl HO]
  · isplitr; · iexact HR
    isplitr; · iexact HL
    isplitl [Hs]; · iexact Hs
    isplitl [Hsl]; · iexact Hsl
    iexact HO
  iintro ⟨Hsl, Hd, HO⟩
  iapply Hk
  isplitl [HA]; · iexact HA
  isplitl [Hn]; · iexact Hn
  isplitl [Hi]; · iexact Hi
  isplitl [H4 H5]
  · iapply (work_of m c 0)
    isplitl [H4]; · iexact H4
    iexact H5
  isplitl [Hout]; · iexact Hout
  isplitr [HO]
  · isplitl [Hsl]; · iexact Hsl
    iexact Hd
  iexact HO

/-- What hop `h + 1` takes from the stocks, and what it leaves. -/
def midStock (h : Fin 6) : sProp 𝕄 := iprop(recvStock c h.castSucc ∗ sendStock c h.succ ∗ landStock c h.succ)
def midDone (h : Fin 6) : sProp 𝕄 := iprop(slots m c h.succ.castSucc fullShare ∗ recvDone c h.castSucc ∗ sendDone c h.succ)

theorem slots_mid (h : Fin 6) (q : PosShare TreeShare) : slots m c h.castSucc.succ q ⊢ (slots m c h.succ.castSucc q : sProp 𝕄) := BI.Entails.refl _

/-- A hop in the middle. `a` is its number, `b` the next one's; `s` is `b`'s parity. -/
theorem hopMid_wp (h : Fin 6) (l : List (Fin 7)) (hl : ∀ i ∈ l, h.val + 1 < i.val) (a b : Fin 8) (ha : a = h.succ.castSucc) (hb : b = h.succ.succ)
    (s : Fin 2) (hs : s = par b) (n : Nat) (hn : n = h.val) {k : Body F} {Q : PUnit → sProp 𝕄} :
    iprop(records m K ∗ levAts L lv ∗ kvArr m c ∗ kvBusy m c a ∗ kvIdle c s ∗ work c ∗ bufPts c cc0_stg3_0 (outF m c n)
        ∗ midStock c h ∗ owesE c (oweFrom c (h.succ :: l)))
      ⊢ iprop(((kvArr m c ∗ kvBusy m c b ∗ kvIdle c (par a) ∗ work c ∗ bufPts c cc0_stg3_0 (outF m c (n + 1))
            ∗ midDone m c h ∗ owesE c (oweFrom c l)) -∗ run c k Q)
          -∗ run c (hopMid oBuf (k0_pay37 (xStg m c)) c h k) Q) := by
  subst ha hb hs hn
  have e : h.succ.castSucc = hop (h.val + 1) := Fin.ext (Nat.mod_eq_of_lt (by have := h.isLt; omega)).symm
  unfold hopMid midStock midDone
  iintro ⟨#HR, #HL, HA, Hb, Hi, Hw, Hout, ⟨Hr, Hs, Hl⟩, HO⟩ Hk
  iapply (starts_wp m c h.succ.succ) $$ [HA Hi]
  · isplitl [HA]; · iexact HA
    iexact Hi
  iintro ⟨HA, Hn⟩
  iapply (recvsAt_wp m K c h.castSucc (h.succ :: l) (by
      intro i hi
      rcases List.mem_cons.mp hi with rfl | hi
      · exact Nat.lt_succ_self _
      · exact Nat.lt_trans (Nat.lt_succ_self _) (hl i hi))) $$ [Hr HO]
  · isplitr; · iexact HR
    isplitr; · iexact HL
    isplitl [Hr]; · iexact Hr
    iexact HO
  iintro ⟨Hsl, Hrd, HO⟩
  ihave Hsl := (slots_mid m c h fullShare) $$ Hsl
  iapply (sendsAt_wp m K c h.succ l) $$ [Hs Hl Hsl HO]
  · isplitr; · iexact HR
    isplitl [Hs]; · iexact Hs
    isplitl [Hl]; · iexact Hl
    isplitl [Hsl]; · iexact Hsl
    iexact HO
  iintro ⟨Hsl, Hs, HO⟩
  iapply (compute_wp m c h.succ.castSucc fullShare.right l) $$ [Hsl Hw Hb HO]
  · isplitr; · iexact HL
    isplitl [Hsl]; · iexact Hsl
    isplitl [Hw]; · iexact Hw
    isplitl [Hb]; · iexact Hb
    iexact HO
  iintro ⟨Hsl, H4, H5, Hi, HO⟩
  iapply (outNext_wp m c h.val h.succ.castSucc e) $$ [H5 Hout]
  · isplitl [H5]; · iexact H5
    iexact Hout
  iintro ⟨H5, Hout⟩
  iapply (leavesAt_wp m K c h.succ l (fun i hi => hl i hi)) $$ [Hs Hsl HO]
  · isplitr; · iexact HR
    isplitr; · iexact HL
    isplitl [Hs]; · iexact Hs
    isplitl [Hsl]; · iexact Hsl
    iexact HO
  iintro ⟨Hsl, Hd, HO⟩
  iapply Hk
  isplitl [HA]; · iexact HA
  isplitl [Hn]; · iexact Hn
  isplitl [Hi]; · iexact Hi
  isplitl [H4 H5]
  · iapply (work_of m c h.succ.castSucc)
    isplitl [H4]; · iexact H4
    iexact H5
  isplitl [Hout]; · iexact Hout
  isplitr [HO]
  · isplitl [Hsl]; · iexact Hsl
    isplitl [Hrd]; · iexact Hrd
    iexact Hd
  iexact HO

/-- The last hop. -/
theorem hopLast_wp {Q : PUnit → sProp 𝕄} :
    iprop(records m K ∗ levAts L lv ∗ kvBusy m c 7 ∗ work c ∗ bufPts c cc0_stg3_0 (outF m c 6) ∗ recvStock c 6 ∗ owesE c (oweFrom c []))
      ⊢ iprop(((kvIdle c (par 7) ∗ work c ∗ bufPts c cc0_stg3_0 (outF m c 7) ∗ (slots m c 7 fullShare ∗ recvDone c 6) ∗ owesE c (oweFrom c []))
            -∗ Q ⟨⟩)
          -∗ run c (hopLast oBuf (k0_pay37 (xStg m c)) c) Q) := by
  unfold hopLast
  iintro ⟨#HR, #HL, Hb, Hw, Hout, Hr, HO⟩ Hk
  iapply (recvsAt_wp m K c 6 [] (fun i hi => absurd hi List.not_mem_nil)) $$ [Hr HO]
  · isplitr; · iexact HR
    isplitr; · iexact HL
    isplitl [Hr]; · iexact Hr
    iexact HO
  iintro ⟨Hsl, Hrd, HO⟩
  iapply (compute_wp m c 7 fullShare []) $$ [Hsl Hw Hb HO]
  · isplitr; · iexact HL
    isplitl [Hsl]; · iexact Hsl
    isplitl [Hw]; · iexact Hw
    isplitl [Hb]; · iexact Hb
    iexact HO
  iintro ⟨Hsl, H4, H5, Hi, HO⟩
  iapply (outNext_wp m c 6 7 rfl) $$ [H5 Hout]
  · isplitl [H5]; · iexact H5
    iexact Hout
  iintro ⟨H5, Hout⟩
  unfold run; rw [wp_ret]; imodintro
  iapply Hk
  isplitl [Hi]; · iexact Hi
  isplitl [H4 H5]
  · iapply (work_of m c 7)
    isplitl [H4]; · iexact H4
    iexact H5
  isplitl [Hout]; · iexact Hout
  isplitr [HO]
  · isplitl [Hsl]; · iexact Hsl
    iexact Hrd
  iexact HO

/-! ## The six hops in the middle -/

def midsStock : sProp 𝕄 := iprop(midStock c 0 ∗ midStock c 1 ∗ midStock c 2 ∗ midStock c 3 ∗ midStock c 4 ∗ midStock c 5)
def midsDone : sProp 𝕄 := iprop(midDone m c 0 ∗ midDone m c 1 ∗ midDone m c 2 ∗ midDone m c 3 ∗ midDone m c 4 ∗ midDone m c 5)

theorem hopsMid_wp {k : Body F} {Q : PUnit → sProp 𝕄} :
    iprop(records m K ∗ levAts L lv ∗ kvArr m c ∗ kvBusy m c 1 ∗ kvIdle c (par 0) ∗ work c ∗ bufPts c cc0_stg3_0 (outF m c 0)
        ∗ midsStock c ∗ owesE c (oweFrom c [1, 2, 3, 4, 5, 6]))
      ⊢ iprop(((kvArr m c ∗ kvBusy m c 7 ∗ kvIdle c (par 6) ∗ work c ∗ bufPts c cc0_stg3_0 (outF m c 6)
            ∗ midsDone m c ∗ owesE c (oweFrom c [])) -∗ run c k Q)
          -∗ run c (hopsMid oBuf (k0_pay37 (xStg m c)) c mids k) Q) := by
  unfold midsStock midsDone
  simp only [hopsMid, mids]
  iintro ⟨#HR, #HL, HA, Hb, Hi, Hw, Hout, ⟨S0, S1, S2, S3, S4, S5⟩, HO⟩ Hk
  iapply (hopMid_wp m K c 0 [2, 3, 4, 5, 6] (by decide) 1 2 rfl rfl (par 0) (by decide) 0 rfl) $$ [HA Hb Hi Hw Hout S0 HO]
  · isplitr; · iexact HR
    isplitr; · iexact HL
    isplitl [HA]; · iexact HA
    isplitl [Hb]; · iexact Hb
    isplitl [Hi]; · iexact Hi
    isplitl [Hw]; · iexact Hw
    isplitl [Hout]; · iexact Hout
    isplitl [S0]; · iexact S0
    iexact HO
  iintro ⟨HA, Hb, Hi, Hw, Hout, D0, HO⟩
  iapply (hopMid_wp m K c 1 [3, 4, 5, 6] (by decide) 2 3 rfl rfl (par 1) (by decide) 1 rfl) $$ [HA Hb Hi Hw Hout S1 HO]
  · isplitr; · iexact HR
    isplitr; · iexact HL
    isplitl [HA]; · iexact HA
    isplitl [Hb]; · iexact Hb
    isplitl [Hi]; · iexact Hi
    isplitl [Hw]; · iexact Hw
    isplitl [Hout]; · iexact Hout
    isplitl [S1]; · iexact S1
    iexact HO
  iintro ⟨HA, Hb, Hi, Hw, Hout, D1, HO⟩
  iapply (hopMid_wp m K c 2 [4, 5, 6] (by decide) 3 4 rfl rfl (par 2) (by decide) 2 rfl) $$ [HA Hb Hi Hw Hout S2 HO]
  · isplitr; · iexact HR
    isplitr; · iexact HL
    isplitl [HA]; · iexact HA
    isplitl [Hb]; · iexact Hb
    isplitl [Hi]; · iexact Hi
    isplitl [Hw]; · iexact Hw
    isplitl [Hout]; · iexact Hout
    isplitl [S2]; · iexact S2
    iexact HO
  iintro ⟨HA, Hb, Hi, Hw, Hout, D2, HO⟩
  iapply (hopMid_wp m K c 3 [5, 6] (by decide) 4 5 rfl rfl (par 3) (by decide) 3 rfl) $$ [HA Hb Hi Hw Hout S3 HO]
  · isplitr; · iexact HR
    isplitr; · iexact HL
    isplitl [HA]; · iexact HA
    isplitl [Hb]; · iexact Hb
    isplitl [Hi]; · iexact Hi
    isplitl [Hw]; · iexact Hw
    isplitl [Hout]; · iexact Hout
    isplitl [S3]; · iexact S3
    iexact HO
  iintro ⟨HA, Hb, Hi, Hw, Hout, D3, HO⟩
  iapply (hopMid_wp m K c 4 [6] (by decide) 5 6 rfl rfl (par 4) (by decide) 4 rfl) $$ [HA Hb Hi Hw Hout S4 HO]
  · isplitr; · iexact HR
    isplitr; · iexact HL
    isplitl [HA]; · iexact HA
    isplitl [Hb]; · iexact Hb
    isplitl [Hi]; · iexact Hi
    isplitl [Hw]; · iexact Hw
    isplitl [Hout]; · iexact Hout
    isplitl [S4]; · iexact S4
    iexact HO
  iintro ⟨HA, Hb, Hi, Hw, Hout, D4, HO⟩
  iapply (hopMid_wp m K c 5 [] (by decide) 6 7 rfl rfl (par 5) (by decide) 5 rfl) $$ [HA Hb Hi Hw Hout S5 HO]
  · isplitr; · iexact HR
    isplitr; · iexact HL
    isplitl [HA]; · iexact HA
    isplitl [Hb]; · iexact Hb
    isplitl [Hi]; · iexact Hi
    isplitl [Hw]; · iexact Hw
    isplitl [Hout]; · iexact Hout
    isplitl [S5]; · iexact S5
    iexact HO
  iintro ⟨HA, Hb, Hi, Hw, Hout, D5, HO⟩
  iapply Hk
  isplitl [HA]; · iexact HA
  isplitl [Hb]; · iexact Hb
  isplitl [Hi]; · iexact Hi
  isplitl [Hw]; · iexact Hw
  isplitl [Hout]; · iexact Hout
  isplitr [HO]
  · isplitl [D0]; · iexact D0
    isplitl [D1]; · iexact D1
    isplitl [D2]; · iexact D2
    isplitl [D3]; · iexact D3
    isplitl [D4]; · iexact D4
    iexact D5
  iexact HO

end Cert.KernelIdeal.Hops

end
-- ==== Proof.Body.lean ====
/-
The body at its one grid point: how the scratch buffers split into slots and halves and join again, what a device
holds before and after, and the body's obligation.
-/
module

public import proofs.«01_k».proof.Proof.Hops

@[expose] public section

set_option synthInstance.maxSize 4096

noncomputable section

namespace Cert.KernelIdeal.Hops

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## The gathered buffers as eight slots -/

theorem ori_surj (o : Fin 8) : ∃ h, ori c h = o := by revert c o; decide

/-- The elements of hop `h`'s slot. -/
def slotSetQ (h : Fin 8) : Finset (Idx ((c : Thread nD τ).loc cc0_scratch0)) := (slotQ (ori c h)).view.set
theorem slotQ_disj (h h' : Fin 8) (hh : h ≠ h') : Disjoint (slotSetQ c h) (slotSetQ c h') :=
  Finset.disjoint_left.mpr fun i hi hi' => hh (ori_bij c h h' (((mem_slotQ _ i).mp hi).symm.trans ((mem_slotQ _ i).mp hi')))
/-- The elements of hop `h`'s slot. -/
def slotSetO (h : Fin 8) : Finset (Idx ((c : Thread nD τ).loc cc0_scratch1)) := (slotO (ori c h)).view.set
theorem slotO_disj (h h' : Fin 8) (hh : h ≠ h') : Disjoint (slotSetO c h) (slotSetO c h') :=
  Finset.disjoint_left.mpr fun i hi hi' => hh (ori_bij c h h' (((mem_slotO _ i).mp hi).symm.trans ((mem_slotO _ i).mp hi')))
theorem slotQ_cover : Finset.univ.biUnion (slotSetQ c) = Finset.univ :=
  Finset.eq_univ_of_forall fun i => by
    obtain ⟨h, e⟩ := ori_surj c (i 0)
    exact Finset.mem_biUnion.mpr ⟨h, Finset.mem_univ _, (mem_slotQ _ i).mpr e.symm⟩
theorem slotO_cover : Finset.univ.biUnion (slotSetO c) = Finset.univ :=
  Finset.eq_univ_of_forall fun i => by
    obtain ⟨h, e⟩ := ori_surj c (i 0)
    exact Finset.mem_biUnion.mpr ⟨h, Finset.mem_univ _, (mem_slotO _ i).mpr e.symm⟩

theorem bigSep_hops (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_slots (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem qPts_set (h : Fin 8) (f : S8x768x512.Idx → Elt F .f32) :
    (qPts c (ori c h) fullShare f : sProp 𝕄) = ((c : Thread nD τ).loc cc0_scratch0 ↦[slotSetQ c h]{fullShare} f) := rfl
theorem oPts_set (h : Fin 8) (f : S8x512x768.Idx → Elt F .f32) :
    (oPts c (ori c h) fullShare f : sProp 𝕄) = ((c : Thread nD τ).loc cc0_scratch1 ↦[slotSetO c h]{fullShare} f) := rfl

/-- A gathered buffer, whole, is the own slot and the seven others; the slots full again make it whole. -/
theorem bufQ_slots (f : S8x768x512.Idx → Elt F .f32) :
    (bufPts c cc0_scratch0 f : sProp 𝕄) = bigSep Finset.univ fun h : Fin 8 => qPts c (ori c h) fullShare f :=
  (Ring.pointsTo_blocks (slotSetQ c) (slotQ_disj c) (slotQ_cover c) f).trans (bigSep_congr fun h _ => (qPts_set c h f).symm)
theorem bufO_slots (f : S8x512x768.Idx → Elt F .f32) :
    (bufPts c cc0_scratch1 f : sProp 𝕄) = bigSep Finset.univ fun h : Fin 8 => oPts c (ori c h) fullShare f :=
  (Ring.pointsTo_blocks (slotSetO c) (slotO_disj c) (slotO_cover c) f).trans (bigSep_congr fun h _ => (oPts_set c h f).symm)

theorem bigSep_first (Φ : Fin 8 → sProp 𝕄) :
    bigSep Finset.univ Φ = iprop(Φ 0 ∗ bigSep Finset.univ fun h : Fin 7 => Φ h.succ) := by
  rw [bigSep_slots, bigSep_hops]; rfl

theorem exQ (o : Fin 8) (f) : (qPts c o fullShare f : sProp 𝕄) ⊢ iprop(∃ f, qPts c o fullShare f) := by iintro H; iexists f; iexact H
theorem exO (o : Fin 8) (f) : (oPts c o fullShare f : sProp 𝕄) ⊢ iprop(∃ f, oPts c o fullShare f) := by iintro H; iexists f; iexact H

theorem exQs (f : S8x768x512.Idx → Elt F .f32) : (bigSep Finset.univ fun h : Fin 7 => (qPts c (ori c h.succ) fullShare f : sProp 𝕄))
    ⊢ bigSep Finset.univ fun h : Fin 7 => (iprop(∃ f, qPts c (ori c h.succ) fullShare f) : sProp 𝕄) :=
  bigSep_mono fun h _ => exQ c (ori c h.succ) f
theorem exOs (f : S8x512x768.Idx → Elt F .f32) : (bigSep Finset.univ fun h : Fin 7 => (oPts c (ori c h.succ) fullShare f : sProp 𝕄))
    ⊢ bigSep Finset.univ fun h : Fin 7 => (iprop(∃ f, oPts c (ori c h.succ) fullShare f) : sProp 𝕄) :=
  bigSep_mono fun h _ => exO c (ori c h.succ) f

/-- What the first hop and the barrier take of the two gathered buffers. -/
theorem slots_split (f : S8x768x512.Idx → Elt F .f32) (g : S8x512x768.Idx → Elt F .f32) :
    iprop(bufPts c cc0_scratch0 f ∗ bufPts c cc0_scratch1 g)
      ⊢ (iprop((∃ f, qPts c (ori c 0) fullShare f) ∗ (∃ f, oPts c (ori c 0) fullShare f)
        ∗ bigSep Finset.univ fun h : Fin 7 => iprop((∃ f, qPts c (ori c h.succ) fullShare f) ∗ (∃ f, oPts c (ori c h.succ) fullShare f))) : sProp 𝕄) := by
  rw [bufQ_slots, bufO_slots, bigSep_first, bigSep_first (fun h : Fin 8 => oPts c (ori c h) fullShare g), bigSep_sep']
  iintro ⟨⟨Q0, QS⟩, O0, OS⟩
  isplitl [Q0]; · iexists _; iexact Q0
  isplitl [O0]; · iexists _; iexact O0
  isplitl [QS]
  · iapply (exQs c f); iexact QS
  · iapply (exOs c g); iexact OS

theorem slots_join :
    (bigSep Finset.univ fun h : Fin 8 => slots m c h fullShare) ⊢ (iprop(bufPts c cc0_scratch0 (wqF m) ∗ bufPts c cc0_scratch1 (woF m)) : sProp 𝕄) := by
  rw [bufQ_slots, bufO_slots, ← bigSep_sep']
  exact BI.Entails.refl _

/-! ## The double buffers as two halves -/

theorem halves_split (f g : S2x8x2x512x64.Idx → Elt F .f32) :
    iprop(bufPts c cc0_scratch2 f ∗ bufPts c cc0_scratch3 g ∗ kvZero c 0 ∗ kvZero c 1) ⊢ (iprop(kvIdle c 0 ∗ kvIdle c 1) : sProp 𝕄) := by
  have hk : (bufPts c cc0_scratch2 f : sProp 𝕄) ⊢ iprop(kPts c (half 0) f ∗ kPts c (half 1) f) := by
    unfold kPts bufPts; rw [← half_union]; exact (pointsTo_union half_disj).1
  have hv : (bufPts c cc0_scratch3 g : sProp 𝕄) ⊢ iprop(vPts c (half 0) g ∗ vPts c (half 1) g) := by
    unfold vPts bufPts; rw [← half_union]; exact (pointsTo_union half_disj).1
  unfold kvIdle
  iintro ⟨Hk, Hv, H0, H1⟩
  ihave Hk := hk $$ Hk
  ihave Hv := hv $$ Hv
  icases Hk with ⟨Hk0, Hk1⟩
  icases Hv with ⟨Hv0, Hv1⟩
  isplitl [Hk0 Hv0 H0]
  · isplitl [Hk0]; · iexists _; iexact Hk0
    isplitl [Hv0]; · iexists _; iexact Hv0
    iexact H0
  isplitl [Hk1]; · iexists _; iexact Hk1
  isplitl [Hv1]; · iexists _; iexact Hv1
  iexact H1

theorem halves_join : iprop(kvIdle c 0 ∗ kvIdle c 1)
    ⊢ (iprop((∃ f, bufPts c cc0_scratch2 f) ∗ (∃ f, bufPts c cc0_scratch3 f) ∗ kvZero c 0 ∗ kvZero c 1) : sProp 𝕄) := by
  have hk (f g) : iprop(kPts c (half 0) f ∗ kPts c (half 1) g) ⊢ (iprop(∃ f, bufPts c cc0_scratch2 f) : sProp 𝕄) := by
    unfold kPts
    refine (pointsTo_join half_disj).trans ?_
    rw [half_union]
    iintro H; iexists _; iexact H
  have hv (f g) : iprop(vPts c (half 0) f ∗ vPts c (half 1) g) ⊢ (iprop(∃ f, bufPts c cc0_scratch3 f) : sProp 𝕄) := by
    unfold vPts
    refine (pointsTo_join half_disj).trans ?_
    rw [half_union]
    iintro H; iexists _; iexact H
  unfold kvIdle
  iintro ⟨⟨⟨%f0, Hk0⟩, ⟨%g0, Hv0⟩, H0⟩, ⟨%f1, Hk1⟩, ⟨%g1, Hv1⟩, H1⟩
  isplitl [Hk0 Hk1]
  · iapply (hk f0 f1)
    isplitl [Hk0]; · iexact Hk0
    iexact Hk1
  isplitl [Hv0 Hv1]
  · iapply (hv g0 g1)
    isplitl [Hv0]; · iexact Hv0
    iexact Hv1
  isplitl [H0]; · iexact H0
  iexact H1

/-! ## Before and after -/

/-- What the launch deals device `c`, the records apart. -/
def stocks : sProp 𝕄 :=
  iprop(barStock c ∗ (bigSep Finset.univ fun h : Fin 7 => sendStock c h) ∗ (bigSep Finset.univ fun h : Fin 7 => recvStock c h)
    ∗ kvZero c 0 ∗ kvZero c 1)
def start : sProp 𝕄 := iprop((∃ K, records m K ∗ stocks c) ∗ levAts L lv ∗ kvArr m c)

/-- The six scratch buffers at any contents. -/
def scratch : sProp 𝕄 :=
  iprop((∃ f, bufPts c cc0_scratch0 f) ∗ (∃ f, bufPts c cc0_scratch1 f) ∗ (∃ f, bufPts c cc0_scratch2 f) ∗ (∃ f, bufPts c cc0_scratch3 f)
    ∗ (∃ f, bufPts c cc0_scratch4 f) ∗ (∃ f, bufPts c cc0_scratch5 f))

def Φ₀ : sProp 𝕄 := iprop(start m c ∗ scratch c)
/-- After the body every counter is zero again. -/
def Φ₁ : sProp 𝕄 :=
  iprop(scratch c ∗ kvZero c 0 ∗ kvZero c 1 ∗ (bigSep Finset.univ fun h : Fin 7 => sendDone c h) ∗ (bigSep Finset.univ fun h : Fin 7 => recvDone c h)
    ∗ semVal (barCell c) 0)

theorem read_x (f : S2x512x768.Idx → Elt F .f32) :
    (Memref.whole cc0_stg0_0 : Memref sig .tc .vmem S2x512x768 .f32).view.readAt (Elt F)
      (Rect.unit (s := S2x512x768) ![0, 0, 0] S2x512x768.size inb_S2x512x768_S2x512x768_0_0_0).toLoadRect f = f :=
  Memref.readAt_unit_zero (Elt F) cc0_stg0_0 hz3 _ f

/-- The stocks of the barrier's handshake and of the hops, hop by hop. -/
theorem lands_first : (bigSep Finset.univ fun h : Fin 7 => landStock c h)
    ⊢ (iprop(landStock c 0 ∗ landStock c 1 ∗ landStock c 2 ∗ landStock c 3 ∗ landStock c 4 ∗ landStock c 5 ∗ landStock c 6) : sProp 𝕄) :=
  Entails.of_eq (bigSep_hops _)

/-- The middle hops' stocks from the three kinds of stock, and what they leave, sorted by kind. -/
theorem midsStock_intro :
    iprop((recvStock c 0 ∗ recvStock c 1 ∗ recvStock c 2 ∗ recvStock c 3 ∗ recvStock c 4 ∗ recvStock c 5)
        ∗ (sendStock c 1 ∗ sendStock c 2 ∗ sendStock c 3 ∗ sendStock c 4 ∗ sendStock c 5 ∗ sendStock c 6)
        ∗ (landStock c 1 ∗ landStock c 2 ∗ landStock c 3 ∗ landStock c 4 ∗ landStock c 5 ∗ landStock c 6))
      ⊢ (midsStock c : sProp 𝕄) := by
  unfold midsStock midStock
  iintro ⟨⟨R0, R1, R2, R3, R4, R5⟩, ⟨S1, S2, S3, S4, S5, S6⟩, L1, L2, L3, L4, L5, L6⟩
  isplitl [R0 S1 L1]
  · isplitl [R0]; · iexact R0
    isplitl [S1]; · iexact S1
    iexact L1
  isplitl [R1 S2 L2]
  · isplitl [R1]; · iexact R1
    isplitl [S2]; · iexact S2
    iexact L2
  isplitl [R2 S3 L3]
  · isplitl [R2]; · iexact R2
    isplitl [S3]; · iexact S3
    iexact L3
  isplitl [R3 S4 L4]
  · isplitl [R3]; · iexact R3
    isplitl [S4]; · iexact S4
    iexact L4
  isplitl [R4 S5 L5]
  · isplitl [R4]; · iexact R4
    isplitl [S5]; · iexact S5
    iexact L5
  isplitl [R5]; · iexact R5
  isplitl [S6]; · iexact S6
  iexact L6
theorem midsDone_elim : midsDone m c
    ⊢ (iprop((slots m c 1 fullShare ∗ slots m c 2 fullShare ∗ slots m c 3 fullShare ∗ slots m c 4 fullShare ∗ slots m c 5 fullShare ∗ slots m c 6 fullShare)
        ∗ (recvDone c 0 ∗ recvDone c 1 ∗ recvDone c 2 ∗ recvDone c 3 ∗ recvDone c 4 ∗ recvDone c 5)
        ∗ (sendDone c 1 ∗ sendDone c 2 ∗ sendDone c 3 ∗ sendDone c 4 ∗ sendDone c 5 ∗ sendDone c 6)) : sProp 𝕄) := by
  unfold midsDone midDone
  iintro ⟨⟨T0, R0, S0⟩, ⟨T1, R1, S1⟩, ⟨T2, R2, S2⟩, ⟨T3, R3, S3⟩, ⟨T4, R4, S4⟩, T5, R5, S5⟩
  isplitl [T0 T1 T2 T3 T4 T5]
  · isplitl [T0]; · iexact T0
    isplitl [T1]; · iexact T1
    isplitl [T2]; · iexact T2
    isplitl [T3]; · iexact T3
    isplitl [T4]; · iexact T4
    iexact T5
  isplitl [R0 R1 R2 R3 R4 R5]
  · isplitl [R0]; · iexact R0
    isplitl [R1]; · iexact R1
    isplitl [R2]; · iexact R2
    isplitl [R3]; · iexact R3
    isplitl [R4]; · iexact R4
    iexact R5
  isplitl [S0]; · iexact S0
  isplitl [S1]; · iexact S1
  isplitl [S2]; · iexact S2
  isplitl [S3]; · iexact S3
  isplitl [S4]; · iexact S4
  iexact S5
theorem slots_join' :
    iprop(slots m c 0 fullShare ∗ slots m c 1 fullShare ∗ slots m c 2 fullShare ∗ slots m c 3 fullShare ∗ slots m c 4 fullShare
        ∗ slots m c 5 fullShare ∗ slots m c 6 fullShare ∗ slots m c 7 fullShare)
      ⊢ (iprop(bufPts c cc0_scratch0 (wqF m) ∗ bufPts c cc0_scratch1 (woF m)) : sProp 𝕄) :=
  (Entails.of_eq (bigSep_slots fun h : Fin 8 => slots m c h fullShare).symm).trans (slots_join m c)

set_option maxHeartbeats 1000000 in
/-- The whole body. -/
theorem body_wp {Q : PUnit → sProp 𝕄} :
    iprop(records m K ∗ levAts L lv ∗ stocks c ∗ kvArr m c ∗ scratch c ∗ owesE c (O₀ c)
        ∗ bufPts c cc0_stg0_0 (xStg m c) ∗ bufPts c cc0_stg1_0 (wqStg m c) ∗ bufPts c cc0_stg2_0 (woStg m c) ∗ (∃ f, bufPts c cc0_stg3_0 f))
      ⊢ iprop(((Φ₁ c ∗ owesE c 0 ∗ bufPts c cc0_stg0_0 (xStg m c) ∗ bufPts c cc0_stg1_0 (wqStg m c) ∗ bufPts c cc0_stg2_0 (woStg m c)
            ∗ bufPts c cc0_stg3_0 (outF m c 7)) -∗ Q ⟨⟩)
          -∗ run c (body (Memref.whole cc0_stg0_0) (Memref.whole cc0_stg1_0) (Memref.whole cc0_stg2_0) oBuf) Q) := by
  unfold body stocks scratch Φ₁ run
  rw [wp_deviceId]
  iintro ⟨#HR, #HL, ⟨Hbar, Hsend, Hrecv, Hz0, Hz1⟩, HA, ⟨⟨%f0, H0⟩, ⟨%f1, H1⟩, ⟨%f2, H2⟩, ⟨%f3, H3⟩, H4, H5⟩, HO, Hx, Hq, Ho, Hout⟩ Hk
  ihave Hkv := (halves_split c f2 f3) $$ [H2 H3 Hz0 Hz1]
  · isplitl [H2]; · iexact H2
    isplitl [H3]; · iexact H3
    isplitl [Hz0]; · iexact Hz0
    iexact Hz1
  icases Hkv with ⟨Hi0, Hi1⟩
  ihave Hsl := (slots_split c f0 f1) $$ [H0 H1]
  · isplitl [H0]; · iexact H0
    iexact H1
  icases Hsl with ⟨HQ0, HO0, Hrest⟩
  iapply (starts_wp m c 0) $$ [HA Hi0]
  · isplitl [HA]; · iexact HA
    iexact Hi0
  iintro ⟨HA, Hb⟩
  iapply (meet_wp m K c) $$ [Hbar Hrest HO]
  · isplitr; · iexact HR
    isplitr; · iexact HL
    isplitl [Hbar]; · iexact Hbar
    isplitl [Hrest]; · iexact Hrest
    iexact HO
  iintro ⟨Hland, Hzb, HO⟩
  iapply (own_wp m c) $$ [Hq Ho HQ0 HO0]
  · isplitl [Hq]; · iexact Hq
    isplitl [Ho]; · iexact Ho
    isplitl [HQ0]; · iexact HQ0
    iexact HO0
  iintro ⟨Hq, Ho, HQ0, HO0⟩
  unfold run
  iapply (wp_load 𝒱₀ (c : Thread nD τ) none Set.univ (m := Memref.whole cc0_stg0_0) (Finset.subset_univ _)) $$ Hx; iintro Hx
  rw [read_x]
  ihave Hland := (lands_first c) $$ Hland
  ihave Hsend := (Entails.of_eq (bigSep_hops fun h : Fin 7 => sendStock c h)) $$ Hsend
  ihave Hrecv := (Entails.of_eq (bigSep_hops fun h : Fin 7 => recvStock c h)) $$ Hrecv
  icases Hland with ⟨L0, L1, L2, L3, L4, L5, L6⟩
  icases Hsend with ⟨S0, S1, S2, S3, S4, S5, S6⟩
  icases Hrecv with ⟨R0, R1, R2, R3, R4, R5, R6⟩
  iapply (hopFirst_wp m K c [1, 2, 3, 4, 5, 6] (by decide)) $$ [HA Hb Hi1 H4 H5 S0 L0 HQ0 HO0 Hout HO]
  · isplitr; · iexact HR
    isplitr; · iexact HL
    isplitl [HA]; · iexact HA
    isplitl [Hb]; · iexact Hb
    isplitl [Hi1]; · iexact Hi1
    isplitl [H4 H5]
    · unfold work
      isplitl [H4]; · iexact H4
      iexact H5
    isplitl [S0]; · iexact S0
    isplitl [L0]; · iexact L0
    isplitl [HQ0 HO0]
    · unfold slots
      isplitl [HQ0]; · iexact HQ0
      iexact HO0
    isplitl [Hout]; · iexact Hout
    iexact HO
  iintro ⟨HA, Hb, Hi, Hw, Hout, ⟨T0, D0⟩, HO⟩
  iapply (hopsMid_wp m K c) $$ [HA Hb Hi Hw Hout R0 R1 R2 R3 R4 R5 S1 S2 S3 S4 S5 S6 L1 L2 L3 L4 L5 L6 HO]
  · isplitr; · iexact HR
    isplitr; · iexact HL
    isplitl [HA]; · iexact HA
    isplitl [Hb]; · iexact Hb
    isplitl [Hi]; · iexact Hi
    isplitl [Hw]; · iexact Hw
    isplitl [Hout]; · iexact Hout
    isplitr [HO]
    · iapply (midsStock_intro c)
      isplitl [R0 R1 R2 R3 R4 R5]
      · isplitl [R0]; · iexact R0
        isplitl [R1]; · iexact R1
        isplitl [R2]; · iexact R2
        isplitl [R3]; · iexact R3
        isplitl [R4]; · iexact R4
        iexact R5
      isplitl [S1 S2 S3 S4 S5 S6]
      · isplitl [S1]; · iexact S1
        isplitl [S2]; · iexact S2
        isplitl [S3]; · iexact S3
        isplitl [S4]; · iexact S4
        isplitl [S5]; · iexact S5
        iexact S6
      isplitl [L1]; · iexact L1
      isplitl [L2]; · iexact L2
      isplitl [L3]; · iexact L3
      isplitl [L4]; · iexact L4
      isplitl [L5]; · iexact L5
      iexact L6
    iexact HO
  iintro ⟨-, Hb, Hi0, Hw, Hout, Hmid, HO⟩
  ihave Hmid := (midsDone_elim m c) $$ Hmid
  icases Hmid with ⟨⟨T1, T2, T3, T4, T5, T6⟩, ⟨E0, E1, E2, E3, E4, E5⟩, D1, D2, D3, D4, D5, D6⟩
  iapply (hopLast_wp m K c) $$ [Hb Hw Hout R6 HO]
  · isplitr; · iexact HR
    isplitr; · iexact HL
    isplitl [Hb]; · iexact Hb
    isplitl [Hw]; · iexact Hw
    isplitl [Hout]; · iexact Hout
    isplitl [R6]; · iexact R6
    iexact HO
  iintro ⟨Hi1, Hw, Hout, ⟨T7, E6⟩, HO⟩
  ihave Hbuf := (slots_join' m c) $$ [T0 T1 T2 T3 T4 T5 T6 T7]
  · isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  icases Hbuf with ⟨H0, H1⟩
  ihave Hkv := (halves_join c) $$ [Hi0 Hi1]
  · isplitl [Hi0]; · iexact Hi0
    iexact Hi1
  icases Hkv with ⟨H2, H3, Hz0, Hz1⟩
  unfold work
  icases Hw with ⟨H4, H5⟩
  iapply Hk
  isplitr [HO Hx Hq Ho Hout]
  · isplitl [H0 H1 H2 H3 H4 H5]
    · unfold scratch
      isplitl [H0]; · iexists _; iexact H0
      isplitl [H1]; · iexists _; iexact H1
      isplitl [H2]; · iexact H2
      isplitl [H3]; · iexact H3
      isplitl [H4]; · iexact H4
      iexact H5
    isplitl [Hz0]; · iexact Hz0
    isplitl [Hz1]; · iexact Hz1
    isplitl [D0 D1 D2 D3 D4 D5 D6]
    · iapply (Entails.of_eq (bigSep_hops fun h : Fin 7 => sendDone c h).symm)
      isplitl [D0]; · iexact D0
      isplitl [D1]; · iexact D1
      isplitl [D2]; · iexact D2
      isplitl [D3]; · iexact D3
      isplitl [D4]; · iexact D4
      isplitl [D5]; · iexact D5
      iexact D6
    isplitr [Hzb]
    · iapply (Entails.of_eq (bigSep_hops fun h : Fin 7 => recvDone c h).symm)
      isplitl [E0]; · iexact E0
      isplitl [E1]; · iexact E1
      isplitl [E2]; · iexact E2
      isplitl [E3]; · iexact E3
      isplitl [E4]; · iexact E4
      isplitl [E5]; · iexact E5
      iexact E6
    iexact Hzb
  isplitl [HO]; · iexact HO
  isplitl [Hx]; · iexact Hx
  isplitl [Hq]; · iexact Hq
  isplitl [Ho]; · iexact Ho
  iexact Hout

end Cert.KernelIdeal.Hops

end
-- ==== Proof.Region.lean ====
/-
The region's data and its body's obligation: what the windows hold, what a device owes, and the printed body from the
one to the other.
-/
module

public import proofs.«01_k».proof.Proof.Body

@[expose] public section

set_option synthInstance.maxSize 4096

noncomputable section

namespace Cert.KernelIdeal.Hops

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (c : Dev nD)

/-- The pipeline's data at the one grid point. -/
def dats (_ : Fin 1) (c : Dev nD) : Dat τ (Elt F) Unit ℕ UU ℕ cfg0 c where
  A w := m ((cfg0.win w).arr.view.loc (c : Thread nD τ))
  after w _ := match w with
    | ⟨0, _⟩ => xStg m c
    | ⟨1, _⟩ => wqStg m c
    | ⟨2, _⟩ => woStg m c
    | ⟨3, _⟩ => outF m c 7
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost : sProp 𝕄 :=
  iprop(Φ₁ c ∗ (dats m 0 c).owesAt () t0_0.succ ∗ stg c cc0_stg0_0 (xStg m c) ∗ stg c cc0_stg1_0 (wqStg m c) ∗ stg c cc0_stg2_0 (woStg m c)
    ∗ stg c cc0_stg3_0 (outF m c 7))

theorem before_0 (d) : (dats m 0 c).before (0 : Fin 4) t0_0 d = xStg m c := by unfold Dat.before; rw [if_pos (fetch0_0 t0_0)]; rfl
theorem before_1 (d) : (dats m 0 c).before (1 : Fin 4) t0_0 d = wqStg m c := by unfold Dat.before; rw [if_pos (fetch0_1 t0_0)]; rfl
theorem before_2 (d) : (dats m 0 c).before (2 : Fin 4) t0_0 d = woStg m c := by unfold Dat.before; rw [if_pos (fetch0_2 t0_0)]; rfl

theorem sound_body : bodyPre m c
    ⊢ run c (body (Memref.whole cc0_stg0_0) (Memref.whole cc0_stg1_0) (Memref.whole cc0_stg2_0) oBuf) (fun _ => bodyPost m c) := by
  unfold bodyPre Φ₀ start
  iintro ⟨⟨⟨⟨%K, #HR, Hst⟩, #HL, HA⟩, Hscr⟩, Ho, ⟨%d0, %g0, %h0, Hx⟩, ⟨%d1, %g1, %h1, Hq⟩, ⟨%d2, %g2, %h2, Hw⟩, ⟨%d3, %g3, -, Hout⟩⟩
  have e0 : g0 = xStg m c := h0.trans (before_0 m c d0)
  have e1 : g1 = wqStg m c := h1.trans (before_1 m c d1)
  have e2 : g2 = woStg m c := h2.trans (before_2 m c d2)
  subst e0 e1 e2
  unfold Dat.owesAt Pipeline.owesWithin
  icases Ho with ⟨%W, -, HO⟩
  rw [show (dats m 0 c).owed t0_0.castSucc = O₀ c from rfl]
  iapply (body_wp m K c) $$ [Hst HA Hscr HO Hx Hq Hw Hout]
  · isplitr; · iexact HR
    isplitr; · iexact HL
    isplitl [Hst]; · iexact Hst
    isplitl [HA]; · iexact HA
    isplitl [Hscr]; · iexact Hscr
    isplitl [HO]; · unfold owesE; iexists W; iexact HO
    isplitl [Hx]; · iexact Hx
    isplitl [Hq]; · iexact Hq
    isplitl [Hw]; · iexact Hw
    iexists g3; iexact Hout
  unfold owesE
  iintro ⟨HΦ, ⟨%W', HO⟩, Hx, Hq, Hw, Hout⟩
  unfold bodyPost Dat.owesAt Pipeline.owesWithin
  rw [show (dats m 0 c).owed t0_0.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Hout

theorem body_obligation : BodyObligation (dats (F := F) m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ c none) Set.univ (bodyAt0 t0_0) (fun _ => bodyPost m c)
  rw [body_eq]
  exact sound_body m c

end Cert.KernelIdeal.Hops

end
-- ==== Proof.Launch.lean ====
/-
The launch: the semaphores become the protocol's cells, the tokens and the credit go to the devices that use them, and
the run of the whole program follows, for any float values.
-/
module

public import proofs.«01_k».proof.Proof.Region
public import Idealize.ShloMosaic.Lib.Pipeline.CollectiveSegs

@[expose] public section

set_option synthInstance.maxSize 4096

noncomputable section

namespace Cert.KernelIdeal.Hops

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

/-- Its own: the two counters of each double buffer, and the four families of the ring. -/
abbrev Own : Type := (Fin 2 × Fin 2) ⊕ (Fin 4 × Fin 7)
def osem : Own → SemLoc sig
  | .inl (0, s) => .dma (kSem s)
  | .inl (1, s) => .dma (vSem s)
  | .inr (j, h) => .dma (rc j h)

theorem ownSemFacts : Pipeline.OwnSemFacts cfg0.spec osem where
  isScoped := by decide +kernel
  inj := by
    have h : ∀ a b : Own, osem a = osem b → a = b := by decide +kernel
    exact fun a b => h a b
  disj := by decide +kernel

theorem share_eq (c : Dev nD) (w : Fin cfg0.W) : (dats m 0 c).share w = fullShare := by unfold Dat.share; split <;> rfl

theorem kcell_injective : Function.Injective (kcell : Dev nD × Cell → GSem nD τ sig) := by
  rintro ⟨c, k⟩ ⟨c', k'⟩ h
  have h1 : c = c' := congrArg (fun g : GSem nD τ sig => g.1.1) h
  subst h1
  have h2 : csem k = csem k' := congrArg Prod.snd h
  rw [csem_inj h2]

def ringCells : Finset (GSem nD τ sig) := Finset.univ.map ⟨kcell, kcell_injective⟩

/-- The duties of one device's cells: two of its barrier's, one of each other cell's. -/
abbrev Duty : Type := Bool ⊕ (Fin 4 × Fin 7)
def dutyOf : Duty → Cell × Bool
  | .inl b => (none, b)
  | .inr jh => (some jh, false)
theorem dutyOf_inj (a b : Duty) (h : dutyOf a = dutyOf b) : a = b := by
  rcases a with a | a <;> rcases b with b | b
  · exact congrArg _ (congrArg Prod.snd h)
  · cases congrArg Prod.fst h
  · cases congrArg Prod.fst h
  · exact congrArg _ (Option.some.inj (congrArg Prod.fst h))
def tokOf (cd : Dev nD × Duty) : GSem nD τ sig × ℕ × Bool := (kcell (cd.1, (dutyOf cd.2).1), 0, (dutyOf cd.2).2)
theorem tokOf_injective : Function.Injective tokOf := by
  rintro ⟨c, d⟩ ⟨c', d'⟩ h
  have h1 : (c, (dutyOf d).1) = (c', (dutyOf d').1) := kcell_injective (congrArg Prod.fst h)
  have h2 : (dutyOf d).2 = (dutyOf d').2 := congrArg (fun x : GSem nD τ sig × ℕ × Bool => x.2.2) h
  have h3 : c = c' := congrArg Prod.fst h1
  subst h3
  rw [dutyOf_inj d d' (Prod.ext (congrArg Prod.snd h1) h2)]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, (1 : Counters)))

/-! ## Regrouping -/

theorem bigSep_cells (Φ : Cell → sProp 𝕄) :
    bigSep Finset.univ Φ = iprop(Φ none ∗ bigSep Finset.univ fun jh : Fin 4 × Fin 7 => Φ (some jh)) := by
  rw [bigSep_univ_at Φ none, show (Finset.univ.erase none : Finset Cell) = Finset.univ.map Function.Embedding.some from by
    ext x; cases x <;> simp, bigSep_map]
  rfl
theorem bigSep_fams (Φ : Fin 4 × Fin 7 → sProp 𝕄) :
    bigSep Finset.univ Φ = iprop((bigSep Finset.univ fun h => Φ (0, h)) ∗ (bigSep Finset.univ fun h => Φ (1, h))
      ∗ (bigSep Finset.univ fun h => Φ (2, h)) ∗ (bigSep Finset.univ fun h => Φ (3, h))) := by
  rw [bigSep_univ_prod]
  exact bigSep_univ_eq_bigSepL [0, 1, 2, 3] (by decide) (by decide) _
theorem bigSep_bool (Φ : Bool → sProp 𝕄) : bigSep Finset.univ Φ = iprop(Φ false ∗ Φ true) :=
  bigSep_univ_eq_bigSepL [false, true] (by decide) (by decide) Φ

/-- The duty tokens of device `c`'s own cells. -/
def toks (c : Dev nD) : sProp 𝕄 :=
  iprop((dutyTok ER (barCell c) 0 false ∗ dutyTok ER (barCell c) 0 true)
    ∗ (bigSep Finset.univ fun h : Fin 7 => dutyTok ER (rcCell c 0 h) 0 false) ∗ (bigSep Finset.univ fun h : Fin 7 => dutyTok ER (rcCell c 1 h) 0 false)
    ∗ (bigSep Finset.univ fun h : Fin 7 => dutyTok ER (rcCell c 2 h) 0 false) ∗ (bigSep Finset.univ fun h : Fin 7 => dutyTok ER (rcCell c 3 h) 0 false))

/-- What the launch element deals device `c`. -/
def G (c : Dev nD) : sProp 𝕄 :=
  iprop((bigSep Finset.univ fun k : Cell => roundState ER (ringRd m) (kcell (c, k)) 0)
    ∗ (bigSep Finset.univ fun k : Cell => iprop(atPos ER (kcell (c, k)) 0 ∅ 0 ∗ reached ER (kcell (c, k)) 0)) ∗ toks c)

/-- The tokens device `c` pays with, and its positions. -/
def payToks (c : Dev nD) : sProp 𝕄 :=
  iprop((dutyTok ER (barCell (nxt c)) 0 false ∗ dutyTok ER (barCell (prv c)) 0 true)
    ∗ (bigSep Finset.univ fun h : Fin 7 => dutyTok ER (rcCell c 0 h) 0 false) ∗ (bigSep Finset.univ fun h : Fin 7 => dutyTok ER (rcCell (nxt c) 1 h) 0 false)
    ∗ (bigSep Finset.univ fun h : Fin 7 => dutyTok ER (rcCell c 2 h) 0 false) ∗ (bigSep Finset.univ fun h : Fin 7 => dutyTok ER (rcCell (nxt c) 3 h) 0 false))
def poss (c : Dev nD) : sProp 𝕄 := bigSep Finset.univ fun k : Cell => atPos ER (kcell (c, k)) 0 ∅ 0

/-- What the global step makes of it. -/
def G' (c : Dev nD) : sProp 𝕄 := iprop((∃ K, records m K) ∗ poss c ∗ payToks c ∗ kvZero c 0 ∗ kvZero c 1)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_bool, bigSep_fams]
      rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun ks : Fin 2 × Fin 2 => semVal ((c : Thread nD τ), osem (.inl ks)) 0)
      ∗ bigSep Finset.univ fun jh : Fin 4 × Fin 7 => semVal (kcell (c, some jh)) 0) := by
  unfold Pipeline.ownSems0
  rw [bigSep_univ_sum]
  rfl
theorem kvSems_eq (c : Dev nD) : (bigSep Finset.univ fun ks : Fin 2 × Fin 2 => semVal ((c : Thread nD τ), osem (.inl ks)) 0 : sProp 𝕄)
    = iprop((semVal ((c : Thread nD τ), .dma (kSem 0)) 0 ∗ semVal ((c : Thread nD τ), .dma (kSem 1)) 0)
      ∗ semVal ((c : Thread nD τ), .dma (vSem 0)) 0 ∗ semVal ((c : Thread nD τ), .dma (vSem 1)) 0) := by
  have h2 (Φ : Fin 2 → sProp 𝕄) : bigSep Finset.univ Φ = iprop(Φ 0 ∗ Φ 1) := bigSep_univ_eq_bigSepL [0, 1] (by decide) (by decide) Φ
  rw [bigSep_univ_prod, h2, h2, h2]
  rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barSem] (by decide) (by decide)]; rfl

theorem sort_sems (K0 K1 V0 V1 R B : sProp 𝕄) :
    iprop((((K0 ∗ K1) ∗ V0 ∗ V1) ∗ R) ∗ B) = iprop((B ∗ R) ∗ (K0 ∗ V0) ∗ K1 ∗ V1) := by
  have h1 : iprop((((K0 ∗ K1) ∗ V0 ∗ V1) ∗ R) ∗ B) ⊢ iprop((B ∗ R) ∗ (K0 ∗ V0) ∗ K1 ∗ V1) := by
    iintro ⟨⟨⟨⟨Hk0, Hk1⟩, Hv0, Hv1⟩, HR⟩, HB⟩
    isplitl [HR HB]
    · isplitl [HB] <;> iassumption
    isplitl [Hk0 Hv0]
    · isplitl [Hk0] <;> iassumption
    isplitl [Hk1] <;> iassumption
  have h2 : iprop((B ∗ R) ∗ (K0 ∗ V0) ∗ K1 ∗ V1) ⊢ iprop((((K0 ∗ K1) ∗ V0 ∗ V1) ∗ R) ∗ B) := by
    iintro ⟨⟨HB, HR⟩, ⟨Hk0, Hv0⟩, Hk1, Hv1⟩
    isplitr [HB]
    · isplitr [HR]
      · isplitl [Hk0 Hk1]
        · isplitl [Hk0] <;> iassumption
        isplitl [Hv0] <;> iassumption
      iexact HR
    iexact HB
  exact BI.Entails.antisymm h1 h2

theorem sems0_eq (c : Dev nD) :
    iprop(Pipeline.ownSems0 (Ix := Unit) (Name := ℕ) (U := UU) (Lvl := ℕ) (Val := Elt F) (τ := τ) osem c ∗ unscopedSems0 c)
      = (iprop((bigSep Finset.univ fun k : Cell => semVal (kcell (c, k)) 0) ∗ kvZero c 0 ∗ kvZero c 1) : sProp 𝕄) := by
  rw [ownSems0_eq, unscopedSems0_eq, kvSems_eq, bigSep_cells]
  unfold kvZero
  exact sort_sems _ _ _ _ _ _

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (ringRd m) κ (kcell (c, k))))
          ∗ (bigSep Finset.univ fun k : Cell => iprop(atPos ER (kcell (c, k)) 0 ∅ 0 ∗ reached ER (kcell (c, k)) 0)) ∗ toks c
          ∗ kvZero c 0 ∗ kvZero c 1) := by
  unfold G
  iintro ⟨Hos, Hus, Hst, Hat, Htok⟩
  ihave Hv := (Entails.of_eq (sems0_eq (F := F) c)) $$ [Hos Hus]
  · isplitl [Hos] <;> iassumption
  icases Hv with ⟨Hv, Hz⟩
  imod (show iprop((bigSep Finset.univ fun k : Cell => semVal (kcell (c, k)) 0) ∗ bigSep Finset.univ fun k : Cell => roundState ER (ringRd m) (kcell (c, k)) 0)
      ⊢ (|={Set.univ}=> bigSep Finset.univ fun k : Cell => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

/-- The ring as a permutation of the devices. -/
def ring : Dev nD ≃ Dev nD := ⟨nxt, prv, prv_nxt, nxt_prv⟩

/-- The tokens dealt around the ring: a token goes to the device that pays with it. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun h : Fin 7 => dutyTok ER (rcCell c 1 h) 0 false : sProp 𝕄)),
    bigSep_univ_equiv ring (fun c : Dev nD => (bigSep Finset.univ fun h : Fin 7 => dutyTok ER (rcCell c 3 h) 0 false : sProp 𝕄))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with device `c`. -/
def linear (c : Dev nD) : sProp 𝕄 := iprop(poss c ∗ payToks c ∗ kvZero c 0 ∗ kvZero c 1)

theorem ghost_intro (K : Dev nD × Cell → ℕ) (c : Dev nD) : iprop(records m K ∗ linear c) ⊢ G' m c := by
  unfold linear G'
  iintro ⟨#HR, H⟩
  isplitr; · iexists K; iexact HR
  iexact H

theorem regroup :
    (bigSep Finset.univ fun c : Dev nD => iprop((bigSep Finset.univ fun k : Cell => iprop(∃ κ : ℕ, cellInv ER (ringRd m) κ (kcell (c, k))))
          ∗ (bigSep Finset.univ fun k : Cell => iprop(atPos ER (kcell (c, k)) 0 ∅ 0 ∗ reached ER (kcell (c, k)) 0)) ∗ toks c
          ∗ kvZero c 0 ∗ kvZero c 1) : sProp 𝕄)
      ⊢ bigSep Finset.univ (G' m) := by
  rw [bigSep_sep', bigSep_sep', bigSep_sep', ← bigSep_univ_prod (fun ck : Dev nD × Cell => iprop(∃ κ : ℕ, cellInv ER (ringRd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok, Hz⟩
  ihave HK := (BI.bigSep_exists_pi Finset.univ (fun (ck : Dev nD × Cell) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear poss
    simp only [bigSep_sep']
    isplitl [Hat]; · iexact Hat
    isplitl [Htk]; · iexact Htk
    iexact Hz

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A device's credit for what its left neighbour owes it in the hops of `l`. -/
def hopCreds (c : Dev nD) : List (Fin 7) → sProp 𝕄
  | [] => iprop(emp)
  | h :: l => iprop((hopCreds c l ∗ cred (tallyAt (rcCell c 3 h) () NO)) ∗ cred (tallyAt (rcCell c 1 h) () NQ))

theorem creds_hops (c : Dev nD) (l : List (Fin 7)) : (Pipeline.launchCred (fun d => oweFrom d l) c : sProp 𝕄) ⊢ hopCreds c l := by
  induction l with
  | nil => exact Entails.of_eq (Pipeline.launchCred_zero c)
  | cons h l ih =>
    unfold hopCreds
    rw [show (fun d : Dev nD => oweFrom d (h :: l))
      = fun d => (oweFrom d l + tallyAt (rcCell (nxt d) 3 h) () NO) + tallyAt (rcCell (nxt d) 1 h) () NQ from rfl]
    rw [Pipeline.launchCred_add (fun d => oweFrom d l + tallyAt (rcCell (nxt d) 3 h) () NO), Pipeline.launchCred_add (fun d => oweFrom d l)]
    exact BI.sep_mono (BI.sep_mono ih (Pipeline.launchCred_tallyAt _ nxt prv nxt_prv prv_nxt () NO c)) (Pipeline.launchCred_tallyAt _ nxt prv nxt_prv prv_nxt () NQ c)

theorem creds (c : Dev nD) : (Pipeline.launchCred O₀ c : sProp 𝕄) ⊢ iprop(hopCreds c hops ∗ cred (tallyAt (barCell c) () 2)) := by
  rw [show (O₀ : Dev nD → CellTallies nD τ sig Unit)
    = fun d => (oweFrom d hops + tallyAt (barCell (nxt d)) () 1) + tallyAt (barCell (prv d)) () 1 from rfl]
  rw [Pipeline.launchCred_add (fun d => oweFrom d hops + tallyAt (barCell (nxt d)) () 1), Pipeline.launchCred_add (fun d => oweFrom d hops)]
  have h2 : iprop((hopCreds c hops ∗ cred (tallyAt (barCell c) () 1)) ∗ cred (tallyAt (barCell c) () 1))
      ⊢ (iprop(hopCreds c hops ∗ cred (tallyAt (barCell c) () 2)) : sProp 𝕄) := by
    rw [show (tallyAt (barCell c) () 2 : CellTallies nD τ sig Unit) = tallyAt (barCell c) () 1 + tallyAt (barCell c) () 1 from (tallyAt_add _ _ 1 1).symm]
    iintro ⟨⟨H, H1⟩, H2⟩
    isplitl [H]; · iexact H
    iapply ((cred_add (tallyAt (barCell c) () 1) (tallyAt (barCell c) () 1)).2)
    isplitl [H1]; · iexact H1
    iexact H2
  exact (BI.sep_mono (BI.sep_mono (creds_hops c hops) (Pipeline.launchCred_tallyAt _ nxt prv nxt_prv prv_nxt () 1 c))
    (Pipeline.launchCred_tallyAt _ prv nxt prv_nxt nxt_prv () 1 c)).trans h2

/-- The credit sorted by hop. -/
theorem hopCreds_all (c : Dev nD) : (hopCreds c hops : sProp 𝕄)
    ⊢ iprop((bigSep Finset.univ fun h : Fin 7 => cred (tallyAt (rcCell c 1 h) () NQ)) ∗ bigSep Finset.univ fun h : Fin 7 => cred (tallyAt (rcCell c 3 h) () NO)) := by
  rw [bigSep_hops, bigSep_hops]
  simp only [hopCreds, hops]
  iintro ⟨⟨⟨⟨⟨⟨⟨⟨⟨⟨⟨⟨⟨⟨-, A6⟩, B6⟩, A5⟩, B5⟩, A4⟩, B4⟩, A3⟩, B3⟩, A2⟩, B2⟩, A1⟩, B1⟩, A0⟩, B0⟩
  isplitl [B0 B1 B2 B3 B4 B5 B6]
  · isplitl [B0]; · iexact B0
    isplitl [B1]; · iexact B1
    isplitl [B2]; · iexact B2
    isplitl [B3]; · iexact B3
    isplitl [B4]; · iexact B4
    isplitl [B5]; · iexact B5
    iexact B6
  isplitl [A0]; · iexact A0
  isplitl [A1]; · iexact A1
  isplitl [A2]; · iexact A2
  isplitl [A3]; · iexact A3
  isplitl [A4]; · iexact A4
  isplitl [A5]; · iexact A5
  iexact A6

/-- The stocks of device `c` from its positions, tokens and credit. -/
theorem stocks_intro (c : Dev nD) :
    iprop(linear c ∗ hopCreds c hops ∗ cred (tallyAt (barCell c) () 2)) ⊢ (stocks c : sProp 𝕄) := by
  unfold linear poss payToks stocks barStock sendStock recvStock
  rw [bigSep_cells, bigSep_fams]
  simp only [bigSep_sep']
  iintro ⟨⟨⟨HaB, P0, P1, P2, P3⟩, ⟨⟨TB0, TB1⟩, T0, T1, T2, T3⟩, Hz0, Hz1⟩, Hc, HcB⟩
  ihave Hc := (hopCreds_all c) $$ Hc
  icases Hc with ⟨C1, C3⟩
  isplitl [HaB TB0 TB1 HcB]
  · isplitl [HaB]; · iexact HaB
    isplitl [TB0]; · iexact TB0
    isplitl [TB1]; · iexact TB1
    iexact HcB
  isplitl [P0 P2 T0 T1 T2 T3]
  · isplitl [P0]; · iexact P0
    isplitl [P2]; · iexact P2
    isplitl [T0]; · iexact T0
    isplitl [T1]; · iexact T1
    isplitl [T2]; · iexact T2
    iexact T3
  isplitl [P1 P3 C1 C3]
  · isplitl [P1]; · iexact P1
    isplitl [P3]; · iexact P3
    isplitl [C1]; · iexact C1
    iexact C3
  isplitl [Hz0]; · iexact Hz0
  iexact Hz1

/-! ## The side conditions of the launch -/

/-- The half share of K and V that stays behind and is read at the end. -/
def rest (c : Dev nD) : sProp 𝕄 :=
  iprop(((c : Thread nD τ).loc main_arg2 ↦{fullShare.right} kA m c) ∗ ((c : Thread nD τ).loc main_arg3 ↦{fullShare.right} vA m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ rest m c) := by
  have hk : ((c : Thread nD τ).loc main_arg2 ↦{fullShare} kA m c : sProp 𝕄)
      ⊢ iprop(((c : Thread nD τ).loc main_arg2 ↦{fullShare.left} kA m c) ∗ ((c : Thread nD τ).loc main_arg2 ↦{fullShare.right} kA m c)) :=
    (pointsTo_share (PosShare.mem_left_op_right fullShare)).1
  have hv : ((c : Thread nD τ).loc main_arg3 ↦{fullShare} vA m c : sProp 𝕄)
      ⊢ iprop(((c : Thread nD τ).loc main_arg3 ↦{fullShare.left} vA m c) ∗ ((c : Thread nD τ).loc main_arg3 ↦{fullShare.right} vA m c)) :=
    (pointsTo_share (PosShare.mem_left_op_right fullShare)).1
  have hr : (Pipeline.unscopedRestP Pipeline.Prefetch.none cfg0.spec c (fun b => m ((c : Thread nD τ).loc b)) : sProp 𝕄)
      ⊢ iprop(((c : Thread nD τ).loc main_arg2 ↦{fullShare} kA m c) ∗ ((c : Thread nD τ).loc main_arg3 ↦{fullShare} vA m c)) :=
    Entails.of_eq ((Pipeline.unscopedRestP_none _ c _).trans (unscopedRest0_eq c _))
  iintro ⟨Hr, #HL, Hcr, -, HG⟩
  ihave Hr := hr $$ Hr
  icases Hr with ⟨Hk, Hv⟩
  ihave Hk := hk $$ Hk
  ihave Hv := hv $$ Hv
  icases Hk with ⟨Hk, Hk'⟩
  icases Hv with ⟨Hv, Hv'⟩
  ihave Hc := (creds (F := F) c) $$ Hcr
  unfold G'
  icases HG with ⟨⟨%K, #HR⟩, HG⟩
  imodintro
  unfold start kvArr rest
  isplitr [Hk' Hv']
  · isplitl [HG Hc]
    · iexists K
      isplitr; · iexact HR
      iapply (stocks_intro c)
      isplitl [HG]; · unfold linear; iexact HG
      iexact Hc
    isplitr; · iexact HL
    isplitl [Hk]; · iexists _; iexact Hk
    iexists _; iexact Hv
  isplitl [Hk']; · iexact Hk'
  iexact Hv'

theorem scratch_eq (c : Dev nD) : (Pipeline.scopedRest cfg0.spec c : sProp 𝕄) = scratch c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq]
  have hs : iprop((bigSep Finset.univ fun h : Fin 7 => sendDone c h) ∗ (bigSep Finset.univ fun h : Fin 7 => recvDone c h) ∗ semVal (barCell c) 0)
      ⊢ (bigSep Finset.univ fun k : Cell => semVal (kcell (c, k)) 0 : sProp 𝕄) := by
    rw [bigSep_cells, bigSep_fams]
    unfold sendDone recvDone
    simp only [bigSep_sep']
    iintro ⟨⟨S0, S2⟩, ⟨S1, S3⟩, HB⟩
    isplitl [HB]; · iexact HB
    isplitl [S0]; · iexact S0
    isplitl [S1]; · iexact S1
    isplitl [S2]; · iexact S2
    iexact S3
  unfold Φ₁
  iintro ⟨Hr, Hz0, Hz1, Hsem⟩
  ihave Hsem := hs $$ Hsem
  ihave H := (Entails.of_eq (sems0_eq (F := F) c).symm) $$ [Hz0 Hz1 Hsem]
  · isplitl [Hsem]; · iexact Hsem
    isplitl [Hz0]; · iexact Hz0
    iexact Hz1
  icases H with ⟨Ho, Hu⟩
  isplitl [Hu]; · iexact Hu
  isplitl [Ho]; · iexact Ho
  iexact Hr

theorem stage_ne : ∀ (w : Fin cfg0.W) (s : Fin (cfg0.win w).nbuf) (k : Cell), csem k ≠ .dma ((cfg0.win w).sem s) := by decide +kernel

theorem waits_cells (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (lv_none c _ (stage_ne w s))
    · show _ ⊢ MayWait (c : Thread nD τ) _ () 0
      rw [MayWait_zero]; iintro -; iempintro

/-! ## The run -/

/-- What the run leaves: each window's array at its data's contents, K and V as they were, every counter at zero. -/
def QC : PUnit × MemSt nD τ sig (Elt F) → Prop := fun r =>
  (∀ c : Dev nD, (∀ w : Fin cfg0.W, r.2.mem ((cfg0.win w).arr.view.loc (c : Thread nD τ)) = (dats m 0 c).arrAt w cfg0.N)
    ∧ r.2.mem ((c : Thread nD τ).loc main_arg2) = kA m c ∧ r.2.mem ((c : Thread nD τ).loc main_arg3) = vA m c)
  ∧ r.2.sem = fun _ => 0

def QY (c : Dev nD) (s : MemSt nD τ sig (Elt F)) : Prop :=
  (s.mem ((c : Thread nD τ).loc main_arg2) = kA m c ∧ s.mem ((c : Thread nD τ).loc main_arg3) = vA m c)
    ∧ ∀ sm : SemLoc sig, sm.isScoped .tc = false → s.sem ((c.tc : Thread nD τ), sm) = 0

theorem rest_read (c : Dev nD) (s' : Phys nD τ sig (Elt F)) :
    iprop(rest m c ∗ SI s') ⊢ (iprop(⌜s'.mem.mem ((c : Thread nD τ).loc main_arg2) = kA m c ∧ s'.mem.mem ((c : Thread nD τ).loc main_arg3) = vA m c⌝ ∗ SI s') : sProp 𝕄) := by
  have h (b : Ref sig .tc) (f : Buf (Elt F) ((c : Thread nD τ).loc b)) :
      iprop(((c : Thread nD τ).loc b ↦{fullShare.right} f) ∗ SI s') ⊢ (iprop(⌜s'.mem.mem ((c : Thread nD τ).loc b) = f⌝ ∗ SI s') : sProp 𝕄) := by
    have := pointsTo_read_all (Ix := Unit) (Name := ℕ) (U := UU) (Lvl := ℕ) ({()} : Finset Unit) (fun _ => (c : Thread nD τ).loc b) (fun _ => f) s' fullShare.right
    rw [bigSep_singleton] at this
    refine this.trans (sep_mono_left (BI.pure_mono fun hh => hh () (Finset.mem_singleton_self _)))
  unfold rest
  iintro ⟨⟨Hk, Hv⟩, HS⟩
  ihave H := (h main_arg2 (kA m c)) $$ [Hk HS]
  · isplitl [Hk] <;> iassumption
  icases H with ⟨%h1, HS⟩
  ihave H := (h main_arg3 (vA m c)) $$ [Hv HS]
  · isplitl [Hv] <;> iassumption
  icases H with ⟨%h2, HS⟩
  isplitr; · ipureintro; exact ⟨h1, h2⟩
  iexact HS

set_option maxRecDepth 8000 in
/-- On eight devices, for any float values, from any memory with zero counters: every weakly fair execution of the
    program terminates, and leaves what `QC` says. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits_cells m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (show BI.own ((Emb.inl.trans embR).toFun (initOf ringCells ringToks)) ⊢ (|==> bigSep Finset.univ (G m) : sProp 𝕄) from fund_ring m) $$ HX with HG
      imodintro
      isplitl [HP] <;> iassumption)
    (hglob := glob m)
    (hA := fun _ _ => rfl) (hpf := fun _ k => k.elim0)
    (X := start m) (Y := fun c => unscopedSems0 c) (Z := rest m)
    (hX := start_intro m ρ) (hin := phi0_intro m) (hout := phi1_exit m)
    (QY := QY m)
    (hY := fun c s' => by
      iintro ⟨Hu, Hz, HSI⟩
      ihave H := (rest_read m c s') $$ [Hz HSI]
      · isplitl [Hz] <;> iassumption
      icases H with ⟨%hz, HSI⟩
      imod (unscopedSems0_read (X := unscopedSems0 c) (c := c) fupd_intro s') $$ [Hu HSI] with ⟨%hs, HSI⟩
      · isplitl [Hu] <;> iassumption
      imodintro
      isplitr; · ipureintro; exact ⟨hz, hs⟩
      iexact HSI)
    (hQ := fun _ h hs => ⟨fun c => ⟨fun w => (h c).1 w, (h c).2.2.1⟩, sem_eq_zero hs fun c => (h c).2.2.2⟩)

end Cert.KernelIdeal.Hops

end
-- ==== Proof.Frames.lean ====
/-
What the run leaves of the arguments, and the array of the result.
-/
module

public import proofs.«01_k».proof.Proof.Launch

@[expose] public section

set_option synthInstance.maxSize 4096

noncomputable section

namespace Cert.KernelIdeal.Hops

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- The arguments as they were. -/
theorem QC_args {m : (ℓ : Loc nD τ sig) → Buf (Elt F) ℓ} {r : PUnit × MemSt nD τ sig (Elt F)} (h : QC m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h.1 c).1 0).trans ((dats m 0 c).arrAt_in 0 rfl _), ((h.1 c).1 1).trans ((dats m 0 c).arrAt_in 1 rfl _),
    (h.1 c).2.1, (h.1 c).2.2, ((h.1 c).1 2).trans ((dats m 0 c).arrAt_in 2 rfl _)⟩

/-- The result array holds the last hop's output. -/
theorem QC_result {m : (ℓ : Loc nD τ sig) → Buf (Elt F) ℓ} {r : PUnit × MemSt nD τ sig (Elt F)} (h : QC m r) (c : Dev nD) :
    r.2.mem ((c : Thread nD τ).loc main_v1) = outF m c 7 := by
  refine ((h.1 c).1 3).trans ((dats m 0 c).arrAt_eq_of_after_last 3 t0_0 (by decide +kernel) _ fun j => ?_)
  blk_simp
  rfl

/-- Every weakly fair execution terminates with the arguments as they were and every counter at zero. -/
theorem run_args : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run defs _ _).mono (fun _ h => ⟨fun c => QC_args h c, h.2⟩) (run_main m ρ)

end Cert.KernelIdeal.Hops

end
-- ==== Proof.Attention.lean ====
/-
Attention with a sliding window over the extended reals, by coordinates.

`attend` is one row of one head, given its 512 products with the keys. `context` is that row out of the
whole arrays, `result` the product of the contexts with Wo over all 4096 columns, and `part o` the share of
the 512 columns of device `o`: the result is the sum of the eight shares.
-/
module

public import Idealize.ShloMosaic.Lib.Pointwise
public import Idealize.ShloMosaic.Init

@[expose] public section

noncomputable section

namespace Cert.Attn

open Idealize.ShloMosaic

/-- Whether row `i` sees column `j`: their distance is at most 128. -/
def sees (i j : Fin 512) : BitVec 1 :=
  IntOp.cmpi .sle (IntOp.absi (IntOp.subi (BitVec.ofNat 32 i.val) (BitVec.ofNat 32 j.val))) 128#32

theorem sees_self (i : Fin 512) : sees i i = 1#1 := by
  have h : IntOp.subi (BitVec.ofNat 32 i.val) (BitVec.ofNat 32 i.val) = 0#32 := BitVec.sub_self _
  unfold sees
  rw [h]
  decide

/-- The scaled product where the row sees the column, else the large negative number. -/
def score (s : Fin 512 → EReal) (i j : Fin 512) : EReal :=
  Scalar.select (sees i j) (s j * Ideal.ofBits .f32 0x3E000000#32) (Ideal.ofBits .f32 0xCE6E6B28#32)

/-- The exponential of the score less the row's greatest score. -/
def expo (s : Fin 512 → EReal) (i j : Fin 512) : EReal :=
  Ideal.exp (score s i j - Finset.univ.fold max (Ideal.ofBits .f32 0xFF800000#32) (score s i))

/-- The weighted sum of the values. -/
def attend (s v : Fin 512 → EReal) (i : Fin 512) : EReal := ∑ j, Ideal.div (expo s i j) (∑ j, expo s i j) * v j

section Arrays

variable (X : (⟨3, ![16, 512, 768]⟩ : Shape).Idx → EReal) (Wq : (⟨2, ![768, 4096]⟩ : Shape).Idx → EReal)
  (K V : (⟨4, ![16, 512, 64, 64]⟩ : Shape).Idx → EReal) (Wo : (⟨2, ![4096, 768]⟩ : Shape).Idx → EReal)

/-- Column `n` of the queries. -/
def qCol (b : Fin 16) (i : Fin 512) (n : Fin 4096) : EReal := ∑ k : Fin 768, X (ix3 b i k) * Wq (ix2 k n)

/-- Column `e` of head `g`, among all columns. -/
def col (g e : Fin 64) : Fin 4096 := ⟨g.val * 64 + e.val, by omega⟩

/-- The context of row `i` in head `g`. -/
def context (b : Fin 16) (i : Fin 512) (g d : Fin 64) : EReal :=
  attend (fun j => ∑ e : Fin 64, qCol X Wq b i (col g e) * K (ix4 b j g e)) (fun j => V (ix4 b j g d)) i

/-- Column `n` of the contexts, all heads side by side. -/
def ctxCol (b : Fin 16) (i : Fin 512) (n : Fin 4096) : EReal :=
  context X Wq K V b i ⟨n.val / 64, by omega⟩ ⟨n.val % 64, by omega⟩

def result (b : Fin 16) (i : Fin 512) (e : Fin 768) : EReal := ∑ n : Fin 4096, ctxCol X Wq K V b i n * Wo (ix2 n e)

/-- Column `k` of device `o`, among all columns. -/
def colOf (o : Fin 8) (k : Fin 512) : Fin 4096 := ⟨k.val + 512 * o.val, by omega⟩

/-- The share of device `o`'s columns in the result. -/
def part (b : Fin 16) (i : Fin 512) (e : Fin 768) (o : Fin 8) : EReal :=
  ∑ k : Fin 512, ctxCol X Wq K V b i (colOf o k) * Wo (ix2 (colOf o k) e)

/-- A sum over all columns, device by device. -/
theorem sum_cols (f : Fin 4096 → EReal) : ∑ n, f n = ∑ o : Fin 8, ∑ k : Fin 512, f (colOf o k) := by
  rw [← Fintype.sum_prod_type']
  exact (Equiv.sum_comp (finProdFinEquiv (m := 8) (n := 512)) f).symm

theorem result_eq (b : Fin 16) (i : Fin 512) (e : Fin 768) :
    result X Wq K V Wo b i e = ∑ o, part X Wq K V Wo b i e o := sum_cols _

end Arrays

end Cert.Attn

end
-- ==== Proof.KernelValue.lean ====
/-
What the kernel computes, by coordinates, when the devices hold the blocks of whole arrays: on device `c`,
hop `h` adds the share of device `ori c h` in the result.
-/
module

public import proofs.«01_k».proof.Proof.Contents
public import proofs.«01_k».proof.Proof.Attention

@[expose] public section

set_option maxRecDepth 16384

noncomputable section

namespace Cert.KernelIdeal.Hops

open Idealize.ShloMosaic Idealize.ShloMosaic.TcCoe Idealize.SL.Sem Cert.KernelIdeal Cert.KernelIdeal.Gen Cert.Attn

variable (m : (ℓ : Loc nD τ sig) → Buf (Elt Ideal) ℓ)

/-! ## The payloads -/

theorem pay5_apply (v : FVec Ideal S512x64 .f32) (s : FVec Ideal S512x512 .f32) (i : Fin 512) (d : Fin 64) :
    k0_pay5 (F := Ideal) k0_pay38 v s (Scalar.ofBits .f32 0x3E000000#32) (ix2 i d)
      = attend (fun j => s (ix2 i j)) (fun j => v (ix2 j d)) i := by
  pointwise [k0_pay5, k0_pay38]
  rfl

theorem pay4_apply (q : FVec Ideal S512x128 .f32) (k : FVec Ideal S1x1x1x512x64 .f32) (i j : Fin 512) :
    k0_pay4 (F := Ideal) q k (ix2 i j) = ∑ e : Fin 64, q (ix2 i ⟨e.val, by omega⟩) * k (ix5 0 0 0 j e) := by
  pointwise [k0_pay4]

theorem pay3_apply (v : FVec Ideal S1x1x1x512x64 .f32) (j : Fin 512) (d : Fin 64) :
    k0_pay3 (F := Ideal) v (ix2 j d) = v (ix5 0 0 0 j d) := by
  pointwise [k0_pay3]

theorem pay6_apply (q : FVec Ideal S512x128 .f32) (k v : FVec Ideal S1x1x1x512x64 .f32) (i : Fin 512) (d : Fin 64) :
    k0_pay6 (F := Ideal) k0_pay38 q k v (ix2 i d)
      = attend (fun j => ∑ e : Fin 64, q (ix2 i ⟨64 + e.val, by omega⟩) * k (ix5 0 0 0 j e)) (fun j => v (ix5 0 0 0 j d)) i := by
  pointwise [k0_pay6, k0_pay38]
  rfl

theorem pay41_apply (x y : FVec Ideal S512x64 .f32) (i : Fin 512) (l : Fin 128) :
    k0_pay41 (F := Ideal) x y (ix3 0 i l)
      = if h : l.val < 64 then x (ix2 i ⟨l.val, h⟩) else y (ix2 i ⟨l.val - 64, by omega⟩) := by
  pointwise [k0_pay41]

theorem pay40_apply (x : FVec Ideal S2x512x768 .f32) (w : FVec Ideal S1x768x512 .f32) (r : Fin 1024) (n : Fin 512) :
    k0_pay40 (F := Ideal) (k0_pay37 x) w (ix2 r n)
      = ∑ k : Fin 768, x (ix3 ⟨r.val / 512, by omega⟩ ⟨r.val % 512, by omega⟩ k) * w (ix3 0 k n) := by
  pointwise [k0_pay40, k0_pay37]

theorem pay42_apply (w : FVec Ideal S1x512x768 .f32) (x : FVec Ideal S1x512x512 .f32) (i : Fin 512) (e : Fin 768) :
    k0_pay42 (F := Ideal) (k0_pay39 w) x (ix3 0 i e) = ∑ k : Fin 512, x (ix3 0 i k) * w (ix3 0 k e) := by
  pointwise [k0_pay42, k0_pay39]

theorem pay47_apply (w : FVec Ideal S1x512x768 .f32) (x : FVec Ideal S1x512x512 .f32) (y : FVec Ideal S1x512x768 .f32)
    (i : Fin 512) (e : Fin 768) :
    k0_pay47 (F := Ideal) (k0_pay39 w) x y (ix3 0 i e) = y (ix3 0 i e) + ∑ k : Fin 512, x (ix3 0 i k) * w (ix3 0 k e) := by
  pointwise [k0_pay47, k0_pay39]

/-! ## The reads -/

theorem off8_eq : ∀ t : Fin k0_t1_loop.trips, k0_off8 t = ![512 * (t.val / 4), 128 * (t.val % 4)] := by decide +kernel

theorem kvOff_eq : ∀ (s : Fin 2) (t : Fin k0_t1_loop.trips) (r : Fin 2),
    kvOff s t (BitVec.ofNat 32 r.val) = ![s.val, 2 * (t.val % 4) + r.val, t.val / 4, 0, 0] := by decide +kernel

/-- The whole block of x, Wq, Wo is staged. -/
theorem xStg_eq (c : Dev nD) : xStg m c = m ((c : Thread nD τ).loc main_arg0) := by
  funext y
  show m ((c : Thread nD τ).loc main_arg0) _ = m ((c : Thread nD τ).loc main_arg0) y
  refine congrArg (m ((c : Thread nD τ).loc main_arg0)) (funext fun a => Fin.ext ?_)
  blk_simp
  match a with
  | ⟨0, _⟩ => exact Nat.zero_add _
  | ⟨1, _⟩ => exact Nat.zero_add _
  | ⟨2, _⟩ => exact Nat.zero_add _

theorem wqStg_eq (c : Dev nD) : wqStg m c = m ((c : Thread nD τ).loc main_arg1) := by
  funext y
  show m ((c : Thread nD τ).loc main_arg1) _ = m ((c : Thread nD τ).loc main_arg1) y
  refine congrArg (m ((c : Thread nD τ).loc main_arg1)) (funext fun a => Fin.ext ?_)
  blk_simp
  match a with
  | ⟨0, _⟩ => exact Nat.zero_add _
  | ⟨1, _⟩ => exact Nat.zero_add _
theorem woStg_eq (c : Dev nD) : woStg m c = m ((c : Thread nD τ).loc main_arg4) := by
  funext y
  show m ((c : Thread nD τ).loc main_arg4) _ = m ((c : Thread nD τ).loc main_arg4) y
  refine congrArg (m ((c : Thread nD τ).loc main_arg4)) (funext fun a => Fin.ext ?_)
  blk_simp
  match a with
  | ⟨0, _⟩ => exact Nat.zero_add _
  | ⟨1, _⟩ => exact Nat.zero_add _

theorem pay35_apply (w : FVec Ideal S768x512 .f32) (k : Fin 768) (n : Fin 512) :
    k0_pay35 (F := Ideal) w (ix3 0 k n) = w (ix2 k n) := by
  pointwise [k0_pay35]
theorem pay36_apply (w : FVec Ideal S512x768 .f32) (k : Fin 512) (e : Fin 768) :
    k0_pay36 (F := Ideal) w (ix3 0 k e) = w (ix2 k e) := by
  pointwise [k0_pay36]

/-- Slot `o` of the gathered blocks, read back. -/
theorem read_wq (o : Fin 8) (k : Fin 768) (n : Fin 512) :
    wqAll.view.readAt (Elt Ideal) (Rect.unit (s := S8x768x512) ![o.val, 0, 0] S1x768x512.size (slotInbQ o)).toLoadRect (wqF m) (ix3 0 k n)
      = m ((o : Thread nD τ).loc main_arg1) (ix2 k n) := by
  have e : (Rect.unit (s := S8x768x512) ![o.val, 0, 0] S1x768x512.size (slotInbQ o)).emb (ix3 0 k n) = ix3 o k n :=
    funext fun a => Fin.ext ((ValueKit.rect_emb_unit_val _ _ _ _ a).trans (by
      match a with
      | ⟨0, _⟩ => exact Nat.add_zero _
      | ⟨1, _⟩ => exact Nat.zero_add _
      | ⟨2, _⟩ => exact Nat.zero_add _))
  refine (congrArg (wqF m) e).trans ((pay35_apply (wqStg m o) k n).trans ?_)
  exact congrFun (wqStg_eq m o) _
theorem read_wo (o : Fin 8) (k : Fin 512) (e : Fin 768) :
    woAll.view.readAt (Elt Ideal) (Rect.unit (s := S8x512x768) ![o.val, 0, 0] S1x512x768.size (slotInbO o)).toLoadRect (woF m) (ix3 0 k e)
      = m ((o : Thread nD τ).loc main_arg4) (ix2 k e) := by
  have h : (Rect.unit (s := S8x512x768) ![o.val, 0, 0] S1x512x768.size (slotInbO o)).emb (ix3 0 k e) = ix3 o k e :=
    funext fun a => Fin.ext ((ValueKit.rect_emb_unit_val _ _ _ _ a).trans (by
      match a with
      | ⟨0, _⟩ => exact Nat.add_zero _
      | ⟨1, _⟩ => exact Nat.zero_add _
      | ⟨2, _⟩ => exact Nat.zero_add _))
  refine (congrArg (woF m) h).trans ((pay36_apply (woStg m o) k e).trans ?_)
  exact congrFun (woStg_eq m o) _

/-- The queries and the keys (or values) that trip `t` reads. -/
theorem read_q (f : S1024x512.Idx → EReal) (t : Fin k0_t1_loop.trips) (ht : t.val < 8) (i : Fin 512) (l : Fin 128) :
    qBuf.view.readAt (Elt Ideal) (Rect.unit (s := S1024x512) (k0_off8 t) S512x128.size (k0_off8_inb t)).toLoadRect f (ix2 i l)
      = f (ix2 ⟨512 * (t.val / 4) + i.val, by omega⟩ ⟨128 * (t.val % 4) + l.val, by omega⟩) := by
  show f _ = f _
  refine congrArg f (funext fun a => Fin.ext ((ValueKit.rect_emb_unit_val _ _ _ _ a).trans (at_off (off8_eq t) a ?_).symm))
  match a with
  | ⟨0, _⟩ => rfl
  | ⟨1, _⟩ => rfl

theorem read_k (f : S2x8x2x512x64.Idx → EReal) (s : Fin 2) (t : Fin k0_t1_loop.trips) (ht : t.val < 8) (r : Fin 2)
    (i : Fin 512) (d : Fin 64) :
    kBuf.view.readAt (Elt Ideal)
      (Rect.unit (s := S2x8x2x512x64) (kvOff s t (BitVec.ofNat 32 r.val)) S1x1x1x512x64.size (kvOff_inb s t r)).toLoadRect f (ix5 0 0 0 i d)
      = f (ix5 s ⟨2 * (t.val % 4) + r.val, by omega⟩ ⟨t.val / 4, by omega⟩ i d) := by
  show f _ = f _
  refine congrArg f (funext fun a => Fin.ext ((ValueKit.rect_emb_unit_val _ _ _ _ a).trans (at_off (kvOff_eq s t r) a ?_).symm))
  match a with
  | ⟨0, _⟩ => rfl
  | ⟨1, _⟩ => rfl
  | ⟨2, _⟩ => rfl
  | ⟨3, _⟩ => exact (Nat.zero_add _).symm
  | ⟨4, _⟩ => exact (Nat.zero_add _).symm
theorem read_v (f : S2x8x2x512x64.Idx → EReal) (s : Fin 2) (t : Fin k0_t1_loop.trips) (ht : t.val < 8) (r : Fin 2)
    (i : Fin 512) (d : Fin 64) :
    vBuf.view.readAt (Elt Ideal)
      (Rect.unit (s := S2x8x2x512x64) (kvOff s t (BitVec.ofNat 32 r.val)) S1x1x1x512x64.size (kvOff_inb s t r)).toLoadRect f (ix5 0 0 0 i d)
      = f (ix5 s ⟨2 * (t.val % 4) + r.val, by omega⟩ ⟨t.val / 4, by omega⟩ i d) := read_k f s t ht r i d

theorem read_ctx (f : S2x512x512.Idx → EReal) (b : Fin 2) (i k : Fin 512) :
    cBuf.view.readAt (Elt Ideal) (Rect.unit (s := S2x512x512) ![b.val, 0, 0] S1x512x512.size (rowInbC b)).toLoadRect f (ix3 0 i k)
      = f (ix3 b i k) := by
  show f _ = f _
  refine congrArg f (funext fun a => Fin.ext ((ValueKit.rect_emb_unit_val _ _ _ _ a).trans ?_))
  match a with
  | ⟨0, _⟩ => exact Nat.add_zero _
  | ⟨1, _⟩ => exact Nat.zero_add _
  | ⟨2, _⟩ => exact Nat.zero_add _

/-! ## The hops -/

/-- Row `b` of device `c`, among all batch rows. -/
def rowOf (c : Fin 8) (b : Fin 2) : Fin 16 := ⟨c.val * 2 + b.val, by omega⟩

variable (X : (⟨3, ![16, 512, 768]⟩ : Shape).Idx → EReal) (Wq : (⟨2, ![768, 4096]⟩ : Shape).Idx → EReal)
  (K W : (⟨4, ![16, 512, 64, 64]⟩ : Shape).Idx → EReal) (Wo : (⟨2, ![4096, 768]⟩ : Shape).Idx → EReal)

/-- The devices hold the blocks of X, Wq and Wo, and all of K and of the values `W`. -/
structure Spread : Prop where
  x : ∀ (c : Dev nD) b i k, m ((c : Thread nD τ).loc main_arg0) (ix3 b i k) = X (ix3 (rowOf c b) i k)
  wq : ∀ (c : Dev nD) k n, m ((c : Thread nD τ).loc main_arg1) (ix2 k n) = Wq (ix2 k (colOf c n))
  k : ∀ c : Dev nD, m ((c : Thread nD τ).loc main_arg2) = K
  v : ∀ c : Dev nD, m ((c : Thread nD τ).loc main_arg3) = W
  wo : ∀ (c : Dev nD) k e, m ((c : Thread nD τ).loc main_arg4) (ix2 k e) = Wo (ix2 (colOf c k) e)

variable {m X Wq K W Wo} (S : Spread m X Wq K W Wo)
include S

theorem qV_apply (c : Dev nD) (h : Fin 8) (r : Fin 1024) (n : Fin 512) :
    qV m c h (ix2 r n) = qCol X Wq (rowOf c ⟨r.val / 512, by omega⟩) ⟨r.val % 512, by omega⟩ (colOf (ori c h) n) := by
  unfold qV
  refine (pay40_apply _ _ r n).trans (Finset.sum_congr rfl fun k _ => congrArg₂ (fun x y : EReal => x * y) ?_ ?_)
  · exact (congrFun (xStg_eq m c) _).trans (S.x c _ _ _)
  · exact (read_wq m (ori c h) k n).trans (S.wq _ _ _)

theorem kvF_k (c : Dev nD) (h : Fin 8) (s : Fin 2) (g : Fin 8) (b : Fin 2) (i : Fin 512) (d : Fin 64) :
    kvF (kA m c) c h (ix5 s g b i d) = K (ix4 (rowOf c b) i ⟨8 * (ori c h).val + g.val, by omega⟩ d) := by
  refine (congrFun (S.k c) _).trans (congrArg K (funext fun a => Fin.ext ?_))
  match a with
  | ⟨0, _⟩ => show 2 * c.val + b.val = c.val * 2 + b.val; omega
  | ⟨1, _⟩ => rfl
  | ⟨2, _⟩ => rfl
  | ⟨3, _⟩ => rfl
theorem kvF_v (c : Dev nD) (h : Fin 8) (s : Fin 2) (g : Fin 8) (b : Fin 2) (i : Fin 512) (d : Fin 64) :
    kvF (vA m c) c h (ix5 s g b i d) = W (ix4 (rowOf c b) i ⟨8 * (ori c h).val + g.val, by omega⟩ d) := by
  refine (congrFun (S.v c) _).trans (congrArg W (funext fun a => Fin.ext ?_))
  match a with
  | ⟨0, _⟩ => show 2 * c.val + b.val = c.val * 2 + b.val; omega
  | ⟨1, _⟩ => rfl
  | ⟨2, _⟩ => rfl
  | ⟨3, _⟩ => rfl

/-- The queries that trip `t` reads, by head: column `l` of the pair is column `l % 64` of one of its heads. -/
theorem trip_q (c : Dev nD) (h : Fin 8) (t : Fin k0_t1_loop.trips) (ht : t.val < 8) (r : Fin 2) (i : Fin 512) (e : Fin 64)
    (l : Fin 128) (hl : l.val = 64 * r.val + e.val) :
    qBuf.view.readAt (Elt Ideal) (Rect.unit (s := S1024x512) (k0_off8 t) S512x128.size (k0_off8_inb t)).toLoadRect (qV m c h) (ix2 i l)
      = qCol X Wq (rowOf c ⟨t.val / 4, by omega⟩) i (col ⟨8 * (ori c h).val + (2 * (t.val % 4) + r.val), by omega⟩ e) := by
  refine (read_q (qV m c h) t ht i l).trans ((qV_apply S c h _ _).trans ?_)
  have e1 : (⟨(512 * (t.val / 4) + i.val) / 512, by omega⟩ : Fin 2) = ⟨t.val / 4, by omega⟩ := Fin.ext (by show (512 * (t.val / 4) + i.val) / 512 = t.val / 4; omega)
  have e2 : (⟨(512 * (t.val / 4) + i.val) % 512, by omega⟩ : Fin 512) = i := Fin.ext (by show (512 * (t.val / 4) + i.val) % 512 = i.val; omega)
  have e3 : colOf (ori c h) ⟨128 * (t.val % 4) + l.val, by omega⟩ = col ⟨8 * (ori c h).val + (2 * (t.val % 4) + r.val), by omega⟩ e :=
    Fin.ext (by show 128 * (t.val % 4) + l.val + 512 * (ori c h).val = (8 * (ori c h).val + (2 * (t.val % 4) + r.val)) * 64 + e.val; omega)
  exact congr (congrArg₂ (fun x y => qCol X Wq (rowOf c x) y) e1 e2) e3

theorem tripV_apply (c : Dev nD) (h : Fin 8) (t : Fin k0_t1_loop.trips) (ht : t.val < 8) (i : Fin 512) (l : Fin 128) :
    tripV m c h t (ix3 0 i l)
      = context X Wq K W (rowOf c ⟨t.val / 4, by omega⟩) i ⟨8 * (ori c h).val + (2 * (t.val % 4) + l.val / 64), by omega⟩
          ⟨l.val % 64, by omega⟩ := by
  unfold tripV
  refine (pay41_apply _ _ i l).trans ?_
  by_cases hl : l.val < 64
  · have d0 : l.val / 64 = 0 := by omega
    have e0 : (⟨l.val % 64, by omega⟩ : Fin 64) = ⟨l.val, hl⟩ := Fin.ext (Nat.mod_eq_of_lt hl)
    rw [dif_pos hl, e0]
    simp only [d0]
    refine (pay5_apply _ _ i _).trans ?_
    unfold context
    congr 1
    · funext j
      refine (pay4_apply _ _ i j).trans (Finset.sum_congr rfl fun e _ => congrArg₂ (fun x y : EReal => x * y) ?_ ?_)
      · exact trip_q S c h t ht 0 i e ⟨e.val, by omega⟩ (by show e.val = 64 * 0 + e.val; omega)
      · exact (read_k _ (par h) t ht 0 j e).trans (kvF_k S c h _ _ _ _ _)
    · funext j
      refine (pay3_apply _ j _).trans ?_
      exact (read_v _ (par h) t ht 0 j _).trans (kvF_v S c h _ _ _ _ _)
  · have d0 : l.val / 64 = 1 := by omega
    have e0 : (⟨l.val % 64, by omega⟩ : Fin 64) = ⟨l.val - 64, by omega⟩ := Fin.ext (by show l.val % 64 = l.val - 64; omega)
    rw [dif_neg hl, e0]
    simp only [d0]
    refine (pay6_apply _ _ _ i _).trans ?_
    unfold context
    congr 1
    · funext j
      refine Finset.sum_congr rfl fun e _ => congrArg₂ (fun x y : EReal => x * y) ?_ ?_
      · exact trip_q S c h t ht 1 i e ⟨64 + e.val, by omega⟩ (by show 64 + e.val = 64 * 1 + e.val; omega)
      · exact (read_k _ (par h) t ht 1 j e).trans (kvF_k S c h _ _ _ _ _)
    · funext j
      exact (read_v _ (par h) t ht 1 j _).trans (kvF_v S c h _ _ _ _ _)

/-- The contexts of hop `h` are the columns of device `ori c h`. -/
theorem ctxF_apply (c : Dev nD) (h : Fin 8) (b : Fin 2) (i k : Fin 512) :
    ctxF m c h (ix3 b i k) = ctxCol X Wq K W (rowOf c b) i (colOf (ori c h) k) := by
  have lt : 4 * b.val + k.val / 128 < 8 := by omega
  refine (tripV_apply S c h ⟨4 * b.val + k.val / 128, by rw [trips_eq]; exact lt⟩ lt i ⟨k.val % 128, Nat.mod_lt _ (by decide)⟩).trans ?_
  unfold ctxCol
  have e1 : (⟨(4 * b.val + k.val / 128) / 4, by omega⟩ : Fin 2) = b := Fin.ext (by show _ / 4 = _; omega)
  have e2 : (⟨8 * (ori c h).val + (2 * ((4 * b.val + k.val / 128) % 4) + k.val % 128 / 64), by omega⟩ : Fin 64)
      = ⟨(colOf (ori c h) k).val / 64, by omega⟩ := Fin.ext (by
        show 8 * (ori c h).val + (2 * ((4 * b.val + k.val / 128) % 4) + k.val % 128 / 64) = (k.val + 512 * (ori c h).val) / 64; omega)
  have e3 : (⟨k.val % 128 % 64, by omega⟩ : Fin 64) = ⟨(colOf (ori c h) k).val % 64, by omega⟩ :=
    Fin.ext (by show k.val % 128 % 64 = (k.val + 512 * (ori c h).val) % 64; omega)
  exact congr (congrArg₂ (fun x y => context X Wq K W (rowOf c x) i y) e1 e2) e3

/-- What hop `h` adds to the result. -/
theorem hop_sum (c : Dev nD) (h : Fin 8) (b : Fin 2) (i : Fin 512) (e : Fin 768) :
    ∑ k : Fin 512, ctxRow m c h b (ix3 0 i k)
        * woAll.view.readAt (Elt Ideal) (Rect.unit (s := S8x512x768) ![(ori c h).val, 0, 0] S1x512x768.size (slotInbO (ori c h))).toLoadRect
            (woF m) (ix3 0 k e)
      = part X Wq K W Wo (rowOf c b) i e (ori c h) := by
  refine Finset.sum_congr rfl fun k _ => congrArg₂ (fun x y : EReal => x * y) ?_ ?_
  · exact (read_ctx _ b i k).trans (ctxF_apply S c h b i k)
  · exact (read_wo m (ori c h) k e).trans (S.wo _ _ _)

theorem outRow_apply (c : Dev nD) (b : Fin 2) (i : Fin 512) (e : Fin 768) : ∀ n : Nat,
    outRow m c n b (ix3 0 i e) = ∑ l ∈ Finset.range (n + 1), part X Wq K W Wo (rowOf c b) i e (ori c (hop l))
  | 0 => by
    rw [Finset.sum_range_one]
    exact (pay42_apply _ _ i e).trans (hop_sum S c (hop 0) b i e)
  | n + 1 => by
    rw [Finset.sum_range_succ]
    refine (pay47_apply _ _ _ i e).trans (congrArg₂ (fun x y : EReal => x + y) ?_ ?_)
    · exact outRow_apply c b i e n
    · exact hop_sum S c (hop (n + 1)) b i e

omit S in
/-- A sum over the hops is a sum over the devices. -/
theorem sum_hops (c : Dev nD) (f : Fin 8 → EReal) : ∑ l ∈ Finset.range 8, f (ori c (hop l)) = ∑ o, f o := by
  rw [Finset.sum_range]
  have e : ∀ h : Fin 8, f (ori c (hop h.val)) = f (ori c h) := fun h => by rw [hop_val]
  rw [Finset.sum_congr rfl fun h _ => e h]
  exact Function.Bijective.sum_comp ((Finite.injective_iff_bijective).mp fun h h' => ori_bij c h h') f

/-- Device `c` ends with its batch rows of the result. -/
theorem outF_apply (c : Dev nD) (b : Fin 2) (i : Fin 512) (e : Fin 768) :
    outF m c 7 (ix3 b i e) = result X Wq K W Wo (rowOf c b) i e := by
  rw [result_eq]
  exact (outRow_apply S c b i e 7).trans (sum_hops c _)

end Cert.KernelIdeal.Hops

end
-- ==== Proof.RefValue.lean ====
/-
What the reference computes, by coordinates: `Attn.result` of its arguments.
-/
module

public import proofs.«01_k».proof.Proof.Gen.ReferenceIdeal.Run
public import proofs.«01_k».proof.Proof.Attention
public import Idealize.ShloMosaic.Lib.Tactic.CleanTypes
public import Idealize.ShloMosaic.Lib.Routing.OpsOrder

@[expose] public section

set_option maxRecDepth 16384

noncomputable section

namespace Cert.Attn

open Idealize.ShloMosaic Idealize.SL.Sem Cert.ReferenceIdeal

/-- Every row sees a column, namely its own. -/
theorem keeps (i : Fin 512) : Finset.fold IntOp.ori (0#1) (sees i) Finset.univ = 1#1 := by
  generalize hb : Finset.fold IntOp.ori (0#1) (sees i) (Finset.univ : Finset (Fin 512)) = b
  have : b = 1#1 ↔ ∃ x ∈ Finset.univ, sees i x = 1#1 := by rw [← hb]; exact Routing.fold_ori _ _
  exact this.mpr ⟨i, Finset.mem_univ _, sees_self i⟩

theorem keep_one {α : Type} (i : Fin 512) (x y : α) :
    Scalar.select (Finset.fold IntOp.ori (0#1) (sees i) Finset.univ) x y = x := by
  rw [keeps]; rfl

set_option maxHeartbeats 4000000 in
theorem reference_apply (m : (ℓ : Loc nD τ sig) → Buf (Elt Ideal) ℓ) (b : Fin 16) (i : Fin 512) (e : Fin 768) :
    Value.res_main_v34 (F := Ideal) m 0 (ix3 b i e)
      = result (m ((Dev.tc 0 : Thread nD τ).loc main_arg0)) (m ((Dev.tc 0 : Thread nD τ).loc main_arg1))
          (m ((Dev.tc 0 : Thread nD τ).loc main_arg2)) (m ((Dev.tc 0 : Thread nD τ).loc main_arg3))
          (m ((Dev.tc 0 : Thread nD τ).loc main_arg4)) b i e := by
  unfold Value.res_main_v34
  clean_types
  pointwise
  unfold result
  refine Finset.sum_congr rfl fun n _ => congrArg (fun x : EReal => x * _) ?_
  unfold ctxCol context attend
  refine Finset.sum_congr rfl fun j _ => ?_
  refine (mul_comm (G := EReal) _ _).trans (congrArg (fun x : EReal => x * _) ?_)
  refine (keep_one i _ _).trans (congrArg (Ideal.div _) ?_)
  exact keep_one i _ _

end Cert.Attn

end
-- ==== Proof.lean ====
/-
The claims: the three frames, the relation of the kernel to its idealization, and the equality of the
idealization's result with the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.KernelIdeal.Hops

section
set_option maxRecDepth 100000

variable {F : FTy → Type} [FloatOps F]

/-- The kernel and its idealization are one text, so one table of bodies. -/
theorem body_same : Cert.Kernel.cc0_body (F := F) = Cert.KernelIdeal.cc0_body (F := F) := rfl

theorem bodies_same : Cert.Kernel.defs₀ (F := F) = Cert.KernelIdeal.defs₀ (F := F) := by
  unfold Cert.Kernel.defs₀ Cert.KernelIdeal.defs₀
  refine congrArg Defs.onTc ?_
  funext k a
  match k, a with
  | ⟨0, _⟩, (t, s) => rfl

theorem defs_same : Cert.Kernel.defs (F := F) = Cert.KernelIdeal.defs (F := F) :=
  congrArg (Pipeline.defs Cert.KernelIdeal.pcfgs) bodies_same

end

theorem frame_kernel : Cert.quiescent_Kernel := fun m ρ _ => by
  rw [defs_same]
  exact run_args (F := Bits) m ρ

theorem frame_kernelIdeal : Cert.quiescent_KernelIdeal := fun m ρ _ =>
  run_args (F := Ideal) m ρ

theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

/-- The blocks of whole arrays, by coordinates. -/
theorem spread (m : (ℓ : Loc Cert.KernelIdeal.nD Cert.KernelIdeal.τ Cert.KernelIdeal.sig) → Buf (Elt Ideal) ℓ)
    (X : (⟨3, ![16, 512, 768]⟩ : Shape).Idx → EReal) (Wq : (⟨2, ![768, 4096]⟩ : Shape).Idx → EReal)
    (K W : (⟨4, ![16, 512, 64, 64]⟩ : Shape).Idx → EReal) (Wo : (⟨2, ![4096, 768]⟩ : Shape).Idx → EReal)
    (h : ∀ c : Dev Cert.KernelIdeal.nD,
      m ((c.tc : Thread Cert.KernelIdeal.nD Cert.KernelIdeal.τ).loc Cert.KernelIdeal.main_arg0)
          = Layout.block ⟨3, ![2, 512, 768]⟩ ⟨3, ![16, 512, 768]⟩ 0 8 c X
        ∧ m ((c.tc : Thread Cert.KernelIdeal.nD Cert.KernelIdeal.τ).loc Cert.KernelIdeal.main_arg1)
          = Layout.block ⟨2, ![768, 512]⟩ ⟨2, ![768, 4096]⟩ 1 8 c Wq
        ∧ m ((c.tc : Thread Cert.KernelIdeal.nD Cert.KernelIdeal.τ).loc Cert.KernelIdeal.main_arg2) = K
        ∧ m ((c.tc : Thread Cert.KernelIdeal.nD Cert.KernelIdeal.τ).loc Cert.KernelIdeal.main_arg3) = W
        ∧ m ((c.tc : Thread Cert.KernelIdeal.nD Cert.KernelIdeal.τ).loc Cert.KernelIdeal.main_arg4)
          = Layout.block ⟨2, ![512, 768]⟩ ⟨2, ![4096, 768]⟩ 0 8 c Wo) :
    Spread m X Wq K W Wo where
  x c b i k := (congrFun (h c).1 _).trans (congrArg X (funext fun a => Fin.ext (by
    match a with
    | ⟨0, _⟩ => rfl
    | ⟨1, _⟩ => rfl
    | ⟨2, _⟩ => rfl)))
  wq c k n := (congrFun (h c).2.1 _).trans (congrArg Wq (funext fun a => Fin.ext (by
    match a with
    | ⟨0, _⟩ => rfl
    | ⟨1, _⟩ => show c.val * 512 + n.val = n.val + 512 * c.val; omega)))
  k c := (h c).2.2.1
  v c := (h c).2.2.2.1
  wo c k e := (congrFun (h c).2.2.2.2 _).trans (congrArg Wo (funext fun a => Fin.ext (by
    match a with
    | ⟨0, _⟩ => show c.val * 512 + k.val = k.val + 512 * c.val; omega
    | ⟨1, _⟩ => rfl)))

/-- Each device ends with its block of the reference's result. -/
theorem algebraic : Cert.algebraic_KernelIdeal_ReferenceIdeal := fun m g m' g' _ hb => by
  have S := spread m _ _ _ _ _ hb
  refine ⟨Cert.ReferenceIdeal.Value.res_out0 m' 0, ?_, ?_⟩
  · refine (θ_run Cert.KernelIdeal.defs _ _).mono (fun r hr c => ⟨?_, QC_args hr c⟩) (run_main (F := Ideal) m g)
    refine (QC_result hr c).trans (funext fun j => ?_)
    idx_vars j
    refine (outF_apply S c _ _ _).trans ((Cert.Attn.reference_apply m' _ _ _).symm.trans ?_)
    refine congrArg (Cert.ReferenceIdeal.Value.res_main_v34 m' 0) (funext fun a => Fin.ext ?_)
    match a with
    | ⟨0, _⟩ => rfl
    | ⟨1, _⟩ => rfl
    | ⟨2, _⟩ => rfl
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
